-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 512]⟩ ⟨2, ![8192, 512]⟩ (Layout.meshBlock [2, 4, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x512 : Shape := ⟨2, ![2048, 512]⟩
abbrev S8192x512 : Shape := ⟨2, ![8192, 512]⟩
abbrev S4 : Shape := ⟨1, ![4]⟩
abbrev S_ : Shape := ⟨0, ![]⟩
abbrev S1 : Shape := ⟨1, ![1]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .local _ .vmem, ⟨0, _⟩ => ⟨S2048x512, .f32⟩
  | .local _ .vmem, ⟨1, _⟩ => ⟨S8192x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v46 : BitVec 32 := Scalar.muli v8 c2048_i32
  let v47 : Index := Scalar.indexCast v46
  let c0_27 : Index := 0#32
  ![v47.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_28 : BitVec 32 := 2048#32
  let v49 : BitVec 32 := Scalar.muli v8 c2048_i32_28
  let c0_i32_36 : BitVec 32 := 0#32
  ![v49.toNat, 0]
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v51 : BitVec 32 := Scalar.muli v2 c16_i32_32
  let v52 : BitVec 32 := Scalar.addi c0_i32_33 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v53 : BitVec 32 := Scalar.muli v5 c4_i32_34
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_35 : BitVec 32 := 1#32
  let v55 : BitVec 32 := Scalar.muli v30 c1_i32_35
  let v56 : BitVec 32 := Scalar.addi v54 v55
  v56.toNat
def k0_dev4 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v63 : BitVec 32 := Scalar.muli v2 c16_i32_40
  let v64 : BitVec 32 := Scalar.addi c0_i32_41 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v65 : BitVec 32 := Scalar.muli v5 c4_i32_42
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_43 : BitVec 32 := 1#32
  let v67 : BitVec 32 := Scalar.muli v19 c1_i32_43
  let v68 : BitVec 32 := Scalar.addi v66 v67
  v68.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2048_i32_46 : BitVec 32 := 2048#32
  let v75 : BitVec 32 := Scalar.muli v19 c2048_i32_46
  let c0_i32_62 : BitVec 32 := 0#32
  ![v75.toNat, 0]
def k0_dev5 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v88 : BitVec 32 := Scalar.muli v2 c16_i32_58
  let v89 : BitVec 32 := Scalar.addi c0_i32_59 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v90 : BitVec 32 := Scalar.muli v5 c4_i32_60
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_61 : BitVec 32 := 1#32
  let v92 : BitVec 32 := Scalar.muli v30 c1_i32_61
  let v93 : BitVec 32 := Scalar.addi v91 v92
  v93.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c2048_i32_47 : BitVec 32 := 2048#32
  let v76 : BitVec 32 := Scalar.muli v30 c2048_i32_47
  let c1024_i32 : BitVec 32 := 1024#32
  let v77 : BitVec 32 := Scalar.addi v76 c1024_i32
  let c0_i32_77 : BitVec 32 := 0#32
  ![v77.toNat, 0]
def k0_dev6 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v110 : BitVec 32 := Scalar.muli v2 c16_i32_73
  let v111 : BitVec 32 := Scalar.addi c0_i32_74 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v112 : BitVec 32 := Scalar.muli v5 c4_i32_75
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_76 : BitVec 32 := 1#32
  let v114 : BitVec 32 := Scalar.muli v19 c1_i32_76
  let v115 : BitVec 32 := Scalar.addi v113 v114
  v115.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.RingI.lean ====
/-
# The ring along `z`, the copies' rows, and the gathered array

The mesh is 2 × 4 × 4, a device's number being `16 * x + 4 * y + z`. The kernel's four copies go round the ring of the
four devices that share `x` and `y`: a device's right neighbour has `z + 1`, its left neighbour `z - 1`, modulo 4.
The four copies are numbered

* `0`: the device's own block, to the right neighbour;
* `1`: the device's own block, to the left neighbour;
* `2`: the first half of the block that came from the left, on to the right neighbour;
* `3`: the second half of the block that came from the right, on to the left neighbour.

Every copy goes from rows of the sender's result to the SAME rows of the receiver's result. This module names the rows
(`sent k c` for what device `c` sends with copy `k`, `land k c` for what it receives), shows that a device's own block
and the four landings cut its result into disjoint pieces, and defines the gathered array `gath`, of which every piece
of every device's result is to hold its part.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

/-- The device with `z + 1` in the same ring. -/
def rt (c : Dev nD) : Dev nD := ⟨4 * (c.val / 4) + (c.val + 1) % 4, by have h : c.val < 32 := c.isLt; show _ < 32; omega⟩
/-- The device with `z - 1` in the same ring. -/
def lf (c : Dev nD) : Dev nD := ⟨4 * (c.val / 4) + (c.val + 3) % 4, by have h : c.val < 32 := c.isLt; show _ < 32; omega⟩

theorem lf_rt (c : Dev nD) : lf (rt c) = c := Fin.ext (by simp only [lf, rt]; omega)
theorem rt_lf (c : Dev nD) : rt (lf c) = c := Fin.ext (by simp only [lf, rt]; omega)

/-- One step to the right, as a permutation of the devices. -/
def stepR : Dev nD ≃ Dev nD := ⟨rt, lf, lf_rt, rt_lf⟩
/-- One step to the left. -/
def stepL : Dev nD ≃ Dev nD := ⟨lf, rt, rt_lf, lf_rt⟩

/-- Whom a copy goes to: `0` and `2` to the right, `1` and `3` to the left. -/
def dir (k : Fin 4) : Dev nD ≃ Dev nD := if k.val % 2 = 0 then stepR else stepL

/-- The device the kernel's first signal names is the left neighbour. -/
theorem dev1_eq (c : Dev nD) : (⟨k0_dev1 c, k0_dev1_lt c⟩ : Dev nD) = lf c := by revert c; decide +kernel
/-- The second signal goes to the right neighbour. -/
theorem dev2_eq (c : Dev nD) : (⟨k0_dev2 c, k0_dev2_lt c⟩ : Dev nD) = rt c := by revert c; decide +kernel
/-- Copy 0 goes to the right neighbour. -/
theorem dev3_eq (c : Dev nD) : (⟨k0_dev3 c, k0_dev3_lt c⟩ : Dev nD) = dir 0 c := by revert c; decide +kernel
/-- Copy 1 goes to the left neighbour. -/
theorem dev4_eq (c : Dev nD) : (⟨k0_dev4 c, k0_dev4_lt c⟩ : Dev nD) = dir 1 c := by revert c; decide +kernel
/-- Copy 2 goes to the right neighbour. -/
theorem dev5_eq (c : Dev nD) : (⟨k0_dev5 c, k0_dev5_lt c⟩ : Dev nD) = dir 2 c := by revert c; decide +kernel
/-- Copy 3 goes to the left neighbour. -/
theorem dev6_eq (c : Dev nD) : (⟨k0_dev6 c, k0_dev6_lt c⟩ : Dev nD) = dir 3 c := by revert c; decide +kernel

/-! ## Rows -/

/-- The elements of the result in the `n` rows from row `a` on. -/
def rows (a n : ℕ) : Finset S8192x512.Idx := Finset.univ.filter fun i => a ≤ (i 0).val ∧ (i 0).val < a + n

theorem mem_rows {a n : ℕ} {i : S8192x512.Idx} : i ∈ rows a n ↔ a ≤ (i 0).val ∧ (i 0).val < a + n := by
  unfold rows; rw [Finset.mem_filter]; exact and_iff_right (Finset.mem_univ i)

/-- Rows side by side: the union, -/
theorem rows_add (a n k : ℕ) : rows a (n + k) = rows a n ∪ rows (a + n) k := by
  ext i; simp only [Finset.mem_union, mem_rows]; omega

/-- and its parts are disjoint. -/
theorem rows_disjoint {a n b k : ℕ} (h : a + n ≤ b ∨ b + k ≤ a) : Disjoint (rows a n) (rows b k) :=
  Finset.disjoint_left.mpr fun i h1 h2 => by rw [mem_rows] at h1 h2; omega

/-- The first row of what device `c` sends with copy `k`. -/
def start (k : Fin 4) (c : Dev nD) : ℕ :=
  match k with
  | 0 => 2048 * (c.val % 4)
  | 1 => 2048 * (c.val % 4)
  | 2 => 2048 * ((c.val + 3) % 4)
  | 3 => 2048 * ((c.val + 1) % 4) + 1024

/-- How many rows copy `k` moves. -/
def len (k : Fin 4) : ℕ :=
  match k with
  | 0 => 2048
  | 1 => 2048
  | 2 => 1024
  | 3 => 1024

/-- The elements device `c` sends with copy `k`; -/
def sent (k : Fin 4) (c : Dev nD) : Finset S8192x512.Idx := rows (start k c) (len k)
/-- those it receives by it; -/
def land (k : Fin 4) (c : Dev nD) : Finset S8192x512.Idx := sent k ((dir k).symm c)
/-- its own block; -/
def own (c : Dev nD) : Finset S8192x512.Idx := rows (2048 * (c.val % 4)) 2048
/-- of the block from the left, the half it does not send on; -/
def keepL (c : Dev nD) : Finset S8192x512.Idx := rows (2048 * ((c.val + 3) % 4) + 1024) 1024
/-- of the block from the right, the half it does not send on. -/
def keepR (c : Dev nD) : Finset S8192x512.Idx := rows (2048 * ((c.val + 1) % 4)) 1024

theorem land_0 (c : Dev nD) : land 0 c = rows (2048 * ((c.val + 3) % 4)) 2048 := by
  show rows (2048 * ((lf c).val % 4)) 2048 = _
  congr 2; simp only [lf]; omega
theorem land_1 (c : Dev nD) : land 1 c = rows (2048 * ((c.val + 1) % 4)) 2048 := by
  show rows (2048 * ((rt c).val % 4)) 2048 = _
  congr 2; simp only [rt]; omega
theorem land_2 (c : Dev nD) : land 2 c = rows (2048 * ((c.val + 2) % 4)) 1024 := by
  show rows (2048 * (((lf c).val + 3) % 4)) 1024 = _
  congr 2; simp only [lf]; omega
theorem land_3 (c : Dev nD) : land 3 c = rows (2048 * ((c.val + 2) % 4) + 1024) 1024 := by
  show rows (2048 * (((rt c).val + 1) % 4) + 1024) 1024 = _
  congr 3; simp only [rt]; omega

/-- The block from the left is what is sent on of it and what is not. -/
theorem land_0_split (c : Dev nD) : land 0 c = sent 2 c ∪ keepL c := by rw [land_0]; exact rows_add _ 1024 1024
theorem land_0_disj (c : Dev nD) : Disjoint (sent 2 c) (keepL c) := rows_disjoint (.inl le_rfl)
/-- The block from the right likewise. -/
theorem land_1_split (c : Dev nD) : land 1 c = keepR c ∪ sent 3 c := by rw [land_1]; exact rows_add _ 1024 1024
theorem land_1_disj (c : Dev nD) : Disjoint (keepR c) (sent 3 c) := rows_disjoint (.inl le_rfl)

/-- A device's result is its own block and the four landings. -/
theorem univ_eq (c : Dev nD) : (Finset.univ : Finset S8192x512.Idx) = own c ∪ (land 0 c ∪ (land 1 c ∪ (land 2 c ∪ land 3 c))) := by
  ext i
  have hi : (i 0).val < 8192 := (i 0).isLt
  simp only [land_0, land_1, land_2, land_3, own, Finset.mem_union, mem_rows, Finset.mem_univ, true_iff]
  omega

theorem own_disj (c : Dev nD) : Disjoint (own c) (land 0 c ∪ (land 1 c ∪ (land 2 c ∪ land 3 c))) := by
  simp only [land_0, land_1, land_2, land_3, own, Finset.disjoint_union_right]
  refine ⟨?_, ?_, ?_, ?_⟩ <;> exact rows_disjoint (by omega)
theorem land_disj0 (c : Dev nD) : Disjoint (land 0 c) (land 1 c ∪ (land 2 c ∪ land 3 c)) := by
  simp only [land_0, land_1, land_2, land_3, Finset.disjoint_union_right]
  refine ⟨?_, ?_, ?_⟩ <;> exact rows_disjoint (by omega)
theorem land_disj1 (c : Dev nD) : Disjoint (land 1 c) (land 2 c ∪ land 3 c) := by
  simp only [land_1, land_2, land_3, Finset.disjoint_union_right]
  refine ⟨?_, ?_⟩ <;> exact rows_disjoint (by omega)
theorem land_disj2 (c : Dev nD) : Disjoint (land 2 c) (land 3 c) := by
  simp only [land_2, land_3]
  exact rows_disjoint (by omega)

/-! ## The kernel's rectangles are these rows -/

/-- The whole staging buffers of `x` and of the result. -/
abbrev xM : Memref sig .tc .vmem S2048x512 .f32 := Memref.whole cc0_stg0_0
abbrev oM : Memref sig .tc .vmem S8192x512 .f32 := Memref.whole cc0_stg1_0

/-- The rectangle of `n` whole rows whose offsets are `off`. -/
theorem unit_rows {off size : Fin 2 → ℕ} {inb : ∀ a, off a + size a ≤ S8192x512.size a} {a n : ℕ}
    (h0 : off 0 = a) (h1 : off 1 = 0) (hs0 : size 0 = n) (hs1 : size 1 = 512) :
    (Rect.unit (s := S8192x512) off size inb).set = rows a n := by
  ext i
  rw [Rect.mem_set_unit, mem_rows]
  have hi : (i 1).val < 512 := (i 1).isLt
  refine (Fin.forall_fin_two (p := fun b : Fin 2 => off b ≤ (i b).val ∧ (i b).val < off b + size b)).trans ?_
  rw [h0, h1, hs0, hs1]
  omega

theorem off3_eq (c : Dev nD) : k0_off3 c = ![2048 * ((c.val + 3) % 4), 0] := by revert c; decide +kernel
theorem off4_eq (c : Dev nD) : k0_off4 c = ![2048 * ((c.val + 1) % 4) + 1024, 0] := by revert c; decide +kernel

/-- The rectangle stored to and copies 0 and 1's are the device's own block. -/
theorem off1_rows (c : Dev nD) : (Rect.unit (s := S8192x512) (k0_off1 c) S2048x512.size (k0_off1_inb c)).set = own c :=
  unit_rows (by rw [k0_off1_eq]; rfl) (by rw [k0_off1_eq]; rfl) rfl rfl
theorem off2_rows (c : Dev nD) : (Rect.unit (s := S8192x512) (k0_off2 c) S2048x512.size (k0_off2_inb c)).set = own c :=
  unit_rows (by rw [k0_off2_eq]; rfl) (by rw [k0_off2_eq]; rfl) rfl rfl
/-- Copy 2's is `sent 2`. -/
theorem off3_rows (c : Dev nD) : (Rect.unit (s := S8192x512) (k0_off3 c) S1024x512.size (k0_off3_inb c)).set = sent 2 c :=
  unit_rows (by rw [off3_eq]; rfl) (by rw [off3_eq]; rfl) rfl rfl
/-- Copy 3's is `sent 3`. -/
theorem off4_rows (c : Dev nD) : (Rect.unit (s := S8192x512) (k0_off4 c) S1024x512.size (k0_off4_inb c)).set = sent 3 c :=
  unit_rows (by rw [off4_eq]; rfl) (by rw [off4_eq]; rfl) rfl rfl

/-! ## The gathered array -/

variable (m : (ℓ : Loc nD τ sig) → Buf (Elt F) ℓ)

/-- Device `c`'s block of `x`, as the pipeline stages it. -/
def xstg (c : Dev nD) : (cc0_stg0_0 : Ref sig .tc).ty.Contents (Elt F) :=
  (win0_0.blk (0 : Fin 1)).view.read (Elt F) (m ((c : Thread nD τ).loc main_arg0))

/-- Of device `c`'s ring, the device whose block holds row `r` of the gathered array. -/
def holder (c : Dev nD) (r : Fin 8192) : Dev nD :=
  ⟨4 * (c.val / 4) + r.val / 2048, by have h : c.val < 32 := c.isLt; have := r.isLt; show _ < 32; omega⟩

/-- The blocks of device `c`'s ring, laid one below the other. -/
def gath (c : Dev nD) : (cc0_stg1_0 : Ref sig .tc).ty.Contents (Elt F) := fun i =>
  xstg m (holder c (i 0)) (Shape.pair (d := ![2048, 512]) ⟨(i 0).val % 2048, Nat.mod_lt _ (by decide)⟩ (i 1))

/-- The devices of one ring gather the same array. -/
theorem gath_ring {c d : Dev nD} (h : c.val / 4 = d.val / 4) : gath m c = gath m d := by
  funext i; unfold gath; rw [show holder c (i 0) = holder d (i 0) from Fin.ext (by simp only [holder]; rw [h])]

theorem gath_dir (k : Fin 4) (c : Dev nD) : gath m (dir k c) = gath m c :=
  gath_ring m (by unfold dir; split <;> simp only [stepR, stepL, Equiv.coe_fn_mk, rt, lf] <;> omega)

theorem gath_dir_symm (k : Fin 4) (c : Dev nD) : gath m ((dir k).symm c) = gath m c := by
  rw [← gath_dir m k, Equiv.apply_symm_apply]

end Cert.KernelIdeal.Gather

end
-- ==== Proof.SchedI.lean ====
/-
# The protocol: cells, duties, payloads, levels

Every device has nine semaphore cells: the barrier's, one for each copy it sends (raised when the copy has left), one
for each copy it receives (raised when the copy has landed). Each is used for a single round:

* the barrier cell has two duties of one unit, one paid by each neighbour; a neighbour's signal hands over the rows of
  ITS result into which this device's two copies to it will go;
* the cell of a sent copy has one duty, which returns the rows copied from;
* the cell of a received copy has one duty, which brings the rows copied to, holding their part of the gathered array.
-/
module

public import proofs.«01_k».proof.Proof.RingI

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- Ghost state of this protocol, beside the pipeline's own. -/
abbrev UG : Type := URounds (GSem nD τ sig) Bool
abbrev UA : Type := UR sig nD τ × UG

local notation "𝕄" => MT nD τ sig Unit (Elt F) ℕ UA ℕ

/-- Where the pipeline's ghost state and this protocol's lie in the whole. -/
abbrev EPipe : Emb (UR sig nD τ) (MT nD τ sig Unit (Elt F) ℕ UA ℕ) := embL
abbrev EGath : Emb UG (MT nD τ sig Unit (Elt F) ℕ UA ℕ) := embR

variable (m : (ℓ : Loc nD τ sig) → Buf (Elt F) ℓ)

/-! ## Cells -/

/-- The barrier semaphore. -/
abbrev barS : Sem sig := (SemArray.scalar (sig.barrier 0 rfl) : Sems sig S_).sem
/-- The semaphore of copy `k` on the sender's side; -/
abbrev sndS (k : Fin 4) : DmaSem sig := ⟨2 + k.val, by have := k.isLt; show _ < 10; omega⟩
/-- and on the receiver's. -/
abbrev rcvS (k : Fin 4) : DmaSem sig := ⟨6 + k.val, by have := k.isLt; show _ < 10; omega⟩

abbrev barC (c : Dev nD) : GSem nD τ sig := ((c : Thread nD τ), .reg barS)
abbrev sndC (k : Fin 4) (c : Dev nD) : GSem nD τ sig := ((c : Thread nD τ), .dma (sndS k))
abbrev rcvC (k : Fin 4) (c : Dev nD) : GSem nD τ sig := ((c : Thread nD τ), .dma (rcvS k))

/-- The copy a copy's semaphore belongs to, on either side. -/
def copyOf (q : DmaSem sig) : Fin 4 := ⟨(q.val + 2) % 4, Nat.mod_lt _ (by decide)⟩

theorem copyOf_snd (k : Fin 4) : copyOf (sndS k) = k := by revert k; decide
theorem copyOf_rcv (k : Fin 4) : copyOf (rcvS k) = k := by revert k; decide

/-- What copy `k` adds to its two semaphores. -/
def amt (k : Fin 4) : ℕ := (cc0_stg1_0 : Ref sig .tc).dmaCredit (⟨2, ![len k, 512]⟩ : Shape) .f32
theorem amt_pos (k : Fin 4) : 0 < amt k := sig.dmaCredit_pos _ _ _ _ _ (by revert k; decide)

/-! ## Pieces of the result -/

/-- The elements `I` of device `c`'s result, with contents `f`. -/
abbrev piece (c : Dev nD) (I : Finset S8192x512.Idx) (q : PosShare TreeShare) (f : (cc0_stg1_0 : Ref sig .tc).ty.Contents (Elt F)) : sProp 𝕄 :=
  ((c : Thread nD τ).loc cc0_stg1_0) ↦[I]{q} f

/-- The rows device `c`'s copy `k` goes into, on the neighbour it goes to, whatever they hold. -/
def room (k : Fin 4) (c : Dev nD) : sProp 𝕄 := iprop(∃ f, piece (F := F) (dir k c) (sent k c) fullShare f)

/-- The share of its rows copy `k` reads with: copies 0 and 1 read the same rows, half a share each. -/
def shr (k : Fin 4) : PosShare TreeShare :=
  match k with
  | 0 => fullShare.left
  | 1 => fullShare.right
  | 2 => fullShare
  | 3 => fullShare

/-- What a neighbour's signal hands device `c`: with `true` the right neighbour's room for copies 0 and 2, with
    `false` the left neighbour's for copies 1 and 3. -/
def barPay (c : Dev nD) (d : Bool) : sProp 𝕄 :=
  if d then iprop(room (F := F) 0 c ∗ room 2 c) else iprop(room (F := F) 1 c ∗ room 3 c)
/-- What the end of a sent copy returns. -/
def sndPay (k : Fin 4) (c : Dev nD) : sProp 𝕄 := piece c (sent k c) (shr k) (gath m c)
/-- What the landing of a copy brings. -/
def rcvPay (k : Fin 4) (c : Dev nD) : sProp 𝕄 := piece c (land k c) fullShare (gath m c)

/-- Device `c`'s own rows of a landing, to be handed over as room. -/
theorem room_of_land (k : Fin 4) (c : Dev nD) (f : (cc0_stg1_0 : Ref sig .tc).ty.Contents (Elt F)) :
    piece c (land k c) fullShare f ⊢ room k ((dir k).symm c) := by
  unfold room land
  rw [Equiv.apply_symm_apply]
  iintro H; iexists f; iexact H

instance barPay_storable (c : Dev nD) (d : Bool) : BI.Storable (upEmb : UEmb _ 𝕄) (barPay (F := F) c d) := by
  unfold barPay room; split <;> infer_instance
instance sndPay_storable (k : Fin 4) (c : Dev nD) : BI.Storable (upEmb : UEmb _ 𝕄) (sndPay m k c) := by unfold sndPay; infer_instance
instance rcvPay_storable (k : Fin 4) (c : Dev nD) : BI.Storable (upEmb : UEmb _ 𝕄) (rcvPay m k c) := by unfold rcvPay; infer_instance

/-! ## The schedule -/

/-- The duties of a cell's one round, -/
def dutiesOf : SemLoc sig → Finset Bool
  | .reg _ => Finset.univ
  | .dma q => if 2 ≤ q.val then {false} else ∅
/-- what each adds, -/
def amountOf : SemLoc sig → ℕ
  | .reg _ => 1
  | .dma q => amt (copyOf q)
/-- and what each hands to device `c`. -/
def payOf (c : Dev nD) (d : Bool) : SemLoc sig → sProp 𝕄
  | .reg _ => barPay c d
  | .dma q => if q.val < 6 then sndPay m (copyOf q) c else rcvPay m (copyOf q) c

/-- The schedule of all cells. -/
def sched : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨_, _ | q⟩
    · exact Nat.one_pos
    · exact amt_pos _

instance sched_storable (g : GSem nD τ sig) (r : ℕ) (d : Bool) : BI.Storable (upEmb : UEmb _ 𝕄) ((sched m).payload g r d) := by
  show BI.Storable upEmb (payOf m g.1.1 d g.2)
  rcases g with ⟨⟨c, _⟩, _ | q⟩
  · exact barPay_storable c d
  · show BI.Storable upEmb (if q.val < 6 then sndPay m (copyOf q) c else rcvPay m (copyOf q) c)
    split <;> infer_instance

theorem duties_zero (c : Dev nD) (s : SemLoc sig) : (sched m).duties ((c : Thread nD τ), s) 0 = dutiesOf s := by
  dsimp only [sched]; exact if_pos ⟨rfl, rfl⟩
theorem duties_bar (c : Dev nD) : (sched m).duties (barC c) 0 = Finset.univ := duties_zero m c _
theorem duties_snd (k : Fin 4) (c : Dev nD) : (sched m).duties (sndC k c) 0 = {false} :=
  (duties_zero m c _).trans (if_pos (Nat.le_add_right 2 k.val))
theorem duties_rcv (k : Fin 4) (c : Dev nD) : (sched m).duties (rcvC k c) 0 = {false} :=
  (duties_zero m c _).trans (if_pos (show 2 ≤ 6 + k.val by omega))
/-- After round 0 no cell is used again. -/
theorem duties_later (g : GSem nD τ sig) : ∀ r, 1 ≤ r → (sched m).duties g r = ∅ := fun r hr => by
  dsimp only [sched]; exact if_neg fun h => by omega

theorem amount_bar (c : Dev nD) (d : Bool) : (sched m).amount (barC c) 0 d = 1 := rfl
theorem amount_snd (k : Fin 4) (c : Dev nD) (d : Bool) : (sched m).amount (sndC k c) 0 d = amt k := congrArg amt (copyOf_snd k)
theorem amount_rcv (k : Fin 4) (c : Dev nD) (d : Bool) : (sched m).amount (rcvC k c) 0 d = amt k := congrArg amt (copyOf_rcv k)

theorem payload_bar (c : Dev nD) (d : Bool) : (sched m).payload (barC c) 0 d = barPay c d := rfl
theorem payload_snd (k : Fin 4) (c : Dev nD) (d : Bool) : (sched m).payload (sndC k c) 0 d = sndPay m k c :=
  (if_pos (show 2 + k.val < 6 by have := k.isLt; omega)).trans (congrArg (fun j => sndPay m j c) (copyOf_snd k))
theorem payload_rcv (k : Fin 4) (c : Dev nD) (d : Bool) : (sched m).payload (rcvC k c) 0 d = rcvPay m k c :=
  (if_neg (show ¬ 6 + k.val < 6 by omega)).trans (congrArg (fun j => rcvPay m j c) (copyOf_rcv k))

theorem expect_bar (c : Dev nD) : (sched m).expect (barC c) 0 = 2 := by
  unfold Schedule.expect Schedule.amountOf
  rw [duties_bar, Finset.sum_congr rfl fun d _ => amount_bar m c d]; rfl
theorem expect_snd (k : Fin 4) (c : Dev nD) : (sched m).expect (sndC k c) 0 = amt k := by
  unfold Schedule.expect Schedule.amountOf; rw [duties_snd, Finset.sum_singleton, amount_snd]
theorem expect_rcv (k : Fin 4) (c : Dev nD) : (sched m).expect (rcvC k c) 0 = amt k := by
  unfold Schedule.expect Schedule.amountOf; rw [duties_rcv, Finset.sum_singleton, amount_rcv]

/-- All a barrier wait hands over: the room for the four copies. -/
theorem rest_bar (c : Dev nD) : bigSep ((sched m).duties (barC c) 0 \ ∅) (fun d => (sched m).payload (barC c) 0 d)
    = iprop((room (F := F) 1 c ∗ room 3 c) ∗ room 0 c ∗ room 2 c) := by
  rw [Finset.sdiff_empty, duties_bar, bigSep_univ_eq_bigSepL [false, true] (by decide) (by decide), bigSepL_cons_cons, bigSepL_singleton,
    payload_bar, payload_bar]
  rfl
theorem rest_snd (k : Fin 4) (c : Dev nD) : bigSep ((sched m).duties (sndC k c) 0 \ ∅) (fun d => (sched m).payload (sndC k c) 0 d) = sndPay m k c := by
  rw [Finset.sdiff_empty, duties_snd, bigSep_singleton, payload_snd]
theorem rest_rcv (k : Fin 4) (c : Dev nD) : bigSep ((sched m).duties (rcvC k c) 0 \ ∅) (fun d => (sched m).payload (rcvC k c) 0 d) = rcvPay m k c := by
  rw [Finset.sdiff_empty, duties_rcv, bigSep_singleton, payload_rcv]

/-! ## What a device owes, and the levels -/

/-- The landing device `c` owes the neighbour its copy `k` goes to. -/
def due (k : Fin 4) (c : Dev nD) : CellTallies nD τ sig Unit := tallyAt (rcvC k (dir k c)) () (amt k)

/-- What device `c` owes after its two signals, after copy 0, after copy 1; and at the start. -/
def owe1 (c : Dev nD) : CellTallies nD τ sig Unit := due 3 c + due 2 c
def owe2 (c : Dev nD) : CellTallies nD τ sig Unit := owe1 c + due 1 c
def owe3 (c : Dev nD) : CellTallies nD τ sig Unit := owe2 c + due 0 c
def owe4 (c : Dev nD) : CellTallies nD τ sig Unit := owe3 c + tallyAt (barC (rt c)) () 1
def owe5 (c : Dev nD) : CellTallies nD τ sig Unit := owe4 c + tallyAt (barC (lf c)) () 1

/-- Every cell of a TensorCore has a level: -/
def lvls (g : GSem nD τ sig) : Finset Unit := if g.1.2 = .tc then {()} else ∅
/-- staging and sent copies lowest, then the barrier, then the landings of copies 0 and 1, then those of 2 and 3. -/
def lev (g : GSem nD τ sig) (_ : Unit) : ℕ :=
  match g.2 with
  | .reg _ => 1
  | .dma q => if q.val < 6 then 0 else if q.val < 8 then 2 else 3

theorem lvls_tc (c : Dev nD) (s : SemLoc sig) : lvls ((c : Thread nD τ), s) = {()} := if_pos rfl
theorem lvls_ne (g : GSem nD τ sig) (h : g.1.2 ≠ .tc) : lvls g = ∅ := if_neg h

/-- Everything in `O` is owed to cells of TensorCores above level `n`. -/
def OverLev (n : ℕ) (O : CellTallies nD τ sig Unit) : Prop := ∀ g i, 0 < O g i → i ∈ lvls g ∧ n < lev g i

theorem overLev_add {n : ℕ} {O O' : CellTallies nD τ sig Unit} (h : OverLev n O) (h' : OverLev n O') : OverLev n (O + O') := fun g i hg => by
  rw [Pi.add_apply, Finsupp.add_apply] at hg
  rcases Nat.eq_zero_or_pos (O g i) with h0 | h0
  · exact h' g i (by omega)
  · exact h g i h0

theorem overLev_tally {n a : ℕ} {c : Dev nD} {s : SemLoc sig} (h : n < lev ((c : Thread nD τ), s) ()) :
    OverLev n (tallyAt ((c : Thread nD τ), s) () a) := fun g i hg => by
  rw [tallyAt_apply] at hg
  by_cases hgi : g = ((c : Thread nD τ), s) ∧ i = ()
  · rw [hgi.1, lvls_tc]; exact ⟨Finset.mem_singleton_self _, h⟩
  · rw [if_neg hgi] at hg; exact absurd hg (Nat.lt_irrefl 0)

theorem overLev_due {n : ℕ} (k : Fin 4) (c : Dev nD) (h : n < if k.val < 2 then 2 else 3) : OverLev n (due k c) :=
  overLev_tally (by
    have : lev (rcvC k (dir k c)) () = if k.val < 2 then 2 else 3 := by
      show (if 6 + k.val < 6 then 0 else if 6 + k.val < 8 then 2 else 3) = _
      rw [if_neg (by omega)]; congr 1; exact propext (by omega)
    rw [this]; exact h)

/-- A device may wait on a cell of its own of level `n` while all it owes is above `n`. -/
theorem mayWait {n : ℕ} (c : Dev nD) (s : SemLoc sig) (hs : lev ((c : Thread nD τ), s) () = n) {O : CellTallies nD τ sig Unit} (hO : OverLev n O) :
    (levAts lvls lev : sProp 𝕄) ⊢ MayWait (c : Thread nD τ) s () O :=
  Pipeline.mayWait_of_levAts (by rw [lvls_tc]; exact Finset.mem_singleton_self _) (fun g i hg => by rw [hs]; exact hO g i hg)

theorem over_owe3 (c : Dev nD) : OverLev 1 (owe3 c) :=
  overLev_add (overLev_add (overLev_add (overLev_due 3 c (by decide)) (overLev_due 2 c (by decide))) (overLev_due 1 c (by decide)))
    (overLev_due 0 c (by decide))
theorem over_owe1 (c : Dev nD) : OverLev 2 (owe1 c) := overLev_add (overLev_due 3 c (by decide)) (overLev_due 2 c (by decide))
theorem over_due3 (c : Dev nD) : OverLev 2 (due 3 c) := overLev_due 3 c (by decide)
theorem over_owe5 (c : Dev nD) : OverLev 0 (owe5 c) :=
  overLev_add (overLev_add (fun g i h => let ⟨a, b⟩ := over_owe3 c g i h; ⟨a, by omega⟩) (overLev_tally Nat.one_pos)) (overLev_tally Nat.one_pos)
theorem over_zero (n : ℕ) : OverLev n 0 := fun g i hg => absurd hg (Nat.lt_irrefl 0)

end Cert.KernelIdeal.Gather

end
-- ==== Proof.StepsI.lean ====
/-
# The kernel's steps against the protocol

The nine cells of a device under one index, the invariants and marks every device may use, and a rule for each kind of
step of the kernel: a signal, a copy, a wait.
-/
module

public import proofs.«01_k».proof.Proof.SchedI

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## The cells under one index -/

/-- The barrier's cell, or a copy's on the sender's (`false`) or the receiver's (`true`) side. -/
abbrev Which : Type := Option (Bool × Fin 4)

/-- The semaphore of a cell. -/
abbrev semOf : Which → SemLoc sig
  | none => .reg barS
  | some (false, k) => .dma (sndS k)
  | some (true, k) => .dma (rcvS k)

/-- Device `c`'s cell `i`. -/
abbrev cell (x : Dev nD × Which) : GSem nD τ sig := ((x.1 : Thread nD τ), semOf x.2)

theorem semOf_injective : Function.Injective semOf := by
  intro i j; revert i j; decide

theorem cell_injective : Function.Injective cell := by
  rintro ⟨c, i⟩ ⟨d, j⟩ h
  have h1 : c = d := congrArg (fun g : GSem nD τ sig => g.1.1) h
  have h2 : i = j := semOf_injective (congrArg Prod.snd h)
  rw [h1, h2]

/-- All cells' invariants, under the names `K`, and the marks that each has reached round 0. -/
def records (K : Dev nD × Which → ℕ) : sProp 𝕄 :=
  iprop((bigSep Finset.univ fun x : Dev nD × Which => cellInv EGath (sched m) (K x) (cell x))
    ∗ bigSep Finset.univ fun x : Dev nD × Which => reached EGath (cell x) 0)

instance records_persistent (K : Dev nD × Which → ℕ) : BI.Persistent (records m K) := by unfold records; infer_instance

/-- One cell's invariant out of the records, -/
theorem records_inv (K : Dev nD × Which → ℕ) (x : Dev nD × Which) : records m K ⊢ cellInv EGath (sched m) (K x) (cell x) := by
  unfold records
  iintro ⟨H, -⟩
  have h : (bigSep Finset.univ fun x : Dev nD × Which => (cellInv EGath (sched m) (K x) (cell x) : sProp 𝕄)) ⊢ cellInv EGath (sched m) (K x) (cell x) :=
    bigSep_elim (Finset.mem_univ x)
  iapply h
  iexact H
/-- and one cell's mark. -/
theorem records_reached (K : Dev nD × Which → ℕ) (x : Dev nD × Which) : records m K ⊢ reached EGath (cell x) 0 := by
  unfold records
  iintro ⟨-, H⟩
  have h : (bigSep Finset.univ fun x : Dev nD × Which => (reached EGath (cell x) 0 : sProp 𝕄)) ⊢ reached EGath (cell x) 0 :=
    bigSep_elim (Finset.mem_univ x)
  iapply h
  iexact H

/-! ## Rules for the steps -/

/-- What device `c` still owes, whatever it has waited for. -/
def debt (c : Dev nD) (O : CellTallies nD τ sig Unit) : sProp 𝕄 := iprop(∃ W, owes (c : Thread nD τ) O W)

abbrev vars0 : Variants := Variants.none

section Rules

variable (K : Dev nD × Which → ℕ) (c : Dev nD)

/-- A signal to a neighbour's barrier pays one of its two duties, handing over what the neighbour is to have. -/
theorem wp_tell {Q : PUnit → sProp 𝕄} {kont : PUnit → Prog (TpuEff nD τ sig (Elt F) Λ₀ .tc) PUnit}
    (n d : Dev nD) (hn : n = d) (b : Bool) (O : CellTallies nD τ sig Unit) :
    iprop(records m K ∗ debt c (O + tallyAt (barC d) () 1) ∗ dutyTok EGath (barC d) 0 b ∗ barPay (F := F) d b)
      ⊢ iprop((debt c O -∗ wp frame (wpE (defs₀ (F := F)) vars0 (c : Thread nD τ) none) Set.univ (kont ⟨⟩) Q)
          -∗ wp frame (wpE (defs₀ (F := F)) vars0 (c : Thread nD τ) none) Set.univ (.op (.semSignal (Dev.tc n : Thread nD τ) barS 1) kont) Q) := by
  subst hn
  unfold debt
  iintro ⟨#HR, ⟨%W, HO⟩, Ht, Hp⟩ Hk
  iapply (Rounds.wp_signal vars0 EGath (sched m) (c : Thread nD τ) none (dst := (n : Thread nD τ)) (κ := K (n, none)) (r := 0)
      (d := b) (by rw [duties_bar]; exact Finset.mem_univ _) (amount_bar m n b) () O rfl) $$ [HO Ht Hp]
  · isplitr; · iapply (records_inv m K (n, none)); iexact HR
    isplitl [HO]; · iexact HO
    isplitl [Ht]; · iexact Ht
    isplitl [Hp]; · rw [payload_bar]; iexact Hp
    iapply (records_reached m K (n, none)); iexact HR
  iintro HO
  iapply Hk
  iexists W; iexact HO

/-- A landing of the rows of the gathered array writes the gathered array's rows. -/
theorem copied (r : Rect S8192x512) (hst : ∀ a, r.stride a = 1) (f g : (cc0_stg1_0 : Ref sig .tc).ty.Contents (Elt F)) :
    ∀ i ∈ (oM.slice r hst).view.set, (oM.slice r hst).view.write (Elt F) f ((oM.slice r hst).view.read (Elt F) g) Finset.univ i = g i := by
  intro i hi
  rw [View.write_read_eq_piecewise, View.setOn_univ, Finset.piecewise_eq_of_mem _ _ _ hi]

/-- Copy `k`: the rows it reads, at its share, go to its own end's payload, the rows it writes to its landing's. -/
theorem wp_copy {Q : PUnit → sProp 𝕄} {kont : PUnit → Prog (TpuEff nD τ sig (Elt F) Λ₀ .tc) PUnit}
    (k : Fin 4) (n : Dev nD) (hn : n = dir k c) (off size : Fin 2 → ℕ) (inb : ∀ a, off a + size a ≤ S8192x512.size a)
    (hr : (Rect.unit (s := S8192x512) off size inb).set = sent k c) (hN : (cc0_stg1_0 : Ref sig .tc).dmaCredit (⟨2, size⟩ : Shape) .f32 = amt k)
    (sS sR : DmaSem sig) (hS : sS = sndS k) (hR : sR = rcvS k) {hst hst'}
    {hsc : (oM.slice (Rect.unit (s := S8192x512) off size inb) hst' : Memref sig (Dev.tc n : Thread nD τ).2.kind .vmem _ .f32).view.ref.isScScratch = false}
    {hsrc : (oM.slice (Rect.unit (s := S8192x512) off size inb) hst).view.WordExact}
    {hdst : (oM.slice (Rect.unit (s := S8192x512) off size inb) hst').view.WordExact}
    {hsem : DmaTarget.Typed .vmem (.dma sR) (.remote (Dev.tc n : Thread nD τ) (oM.slice (Rect.unit (s := S8192x512) off size inb) hst') (.dma sS) hsc)}
    (O : CellTallies nD τ sig Unit) :
    iprop(records m K ∗ debt c (O + due k c) ∗ piece c (sent k c) (shr k) (gath m c) ∗ room k c
        ∗ dutyTok EGath (sndC k c) 0 false ∗ dutyTok EGath (rcvC k (dir k c)) 0 false)
      ⊢ iprop(((cred (tallyAt (sndC k c) () (amt k)) ∗ debt c O)
            -∗ wp frame (wpE (defs₀ (F := F)) vars0 (c : Thread nD τ) none) Set.univ (kont ⟨⟩) Q)
          -∗ wp frame (wpE (defs₀ (F := F)) vars0 (c : Thread nD τ) none) Set.univ
              (.op (.enqueueDma (oM.slice (Rect.unit (s := S8192x512) off size inb) hst)
                (.remote (Dev.tc n : Thread nD τ) (oM.slice (Rect.unit (s := S8192x512) off size inb) hst') (.dma sS) hsc) (.dma sR) hsrc hdst hsem) kont) Q) := by
  subst hn hS hR
  unfold debt room due
  have hset : (oM.slice (Rect.unit (s := S8192x512) off size inb) hst).view.set = sent k c := (View.set_slice_whole _ _).trans hr
  iintro ⟨#HR, ⟨%W, HO⟩, Hsrc, ⟨%f, Hdst⟩, HtS, HtR⟩ Hk
  iapply (Rounds.wp_send_pointsTo vars0 EGath (sched m) (c : Thread nD τ) none
      (c' := (dir k c : Thread nD τ)) (src := oM.slice (Rect.unit (s := S8192x512) off size inb) hst)
      (dst := oM.slice (Rect.unit (s := S8192x512) off size inb) hst') (sS := .dma (sndS k)) (sem := .dma (rcvS k))
      (κ₁ := K (c, some (false, k))) (κ₂ := K (dir k c, some (true, k))) (r₁ := 0) (r₂ := 0) (d₁ := false) (d₂ := false)
      (q := shr k) (fs := gath m c) (fd := f)
      (by rw [duties_snd]; exact Finset.mem_singleton_self _) (by rw [duties_rcv]; exact Finset.mem_singleton_self _)
      () () (amt k) hN (amount_snd m k c false) (amount_rcv m k (dir k c) false) O rfl (W := W)
      (by rw [payload_snd, hset]; exact BI.Entails.refl _)
      (by
        rw [payload_rcv, pointsTo_congr (copied (Rect.unit (s := S8192x512) off size inb) hst' f (gath m c)), hset]
        unfold rcvPay land
        rw [Equiv.symm_apply_apply, gath_dir])) $$ [HO Hsrc Hdst HtS HtR]
  · isplitr; · iapply (records_inv m K (c, some (false, k))); iexact HR
    isplitr; · iapply (records_inv m K (dir k c, some (true, k))); iexact HR
    isplitl [Hsrc]; · rw [hset]; iexact Hsrc
    isplitl [Hdst]; · rw [hset]; iexact Hdst
    isplitl [HO]; · iexact HO
    isplitl [HtS]; · iexact HtS
    isplitr; · iapply (records_reached m K (c, some (false, k))); iexact HR
    isplitl [HtR]; · iexact HtR
    iapply (records_reached m K (dir k c, some (true, k))); iexact HR
  iintro ⟨Hc, HO⟩
  iapply Hk
  isplitl [Hc]; · iexact Hc
  iexists W; iexact HO

/-- A wait for the whole round of an own cell: the payloads come in, and the cell, used up, gives its counter back at zero. -/
theorem wp_await {Q : PUnit → sProp 𝕄} {kont : PUnit → Prog (TpuEff nD τ sig (Elt F) Λ₀ .tc) PUnit}
    (i : Which) (sm : SemLoc sig) (hsm : sm = semOf i) {w : TpuEff nD τ sig (Elt F) Λ₀ .tc PUnit} {a : ℕ}
    (hw : ∀ Kt : PUnit → sProp 𝕄, wpE (defs₀ (F := F)) vars0 (c : Thread nD τ) none Set.univ w Kt = waitSpec (c : Thread nD τ) Set.univ sm a Kt)
    (ha : a = (sched m).expect (cell (c, i)) 0) (P : sProp 𝕄)
    (hP : bigSep ((sched m).duties (cell (c, i)) 0 \ ∅) (fun d => (sched m).payload (cell (c, i)) 0 d) = P)
    {n : ℕ} (hn : lev (cell (c, i)) () = n) {O : CellTallies nD τ sig Unit} (hO : OverLev n O) :
    iprop(records m K ∗ levAts lvls lev ∗ debt c O ∗ cred (tallyAt (cell (c, i)) () a) ∗ atPos EGath (cell (c, i)) 0 ∅ 0)
      ⊢ iprop(((debt c O ∗ semVal (cell (c, i)) 0 ∗ P) -∗ wp frame (wpE (defs₀ (F := F)) vars0 (c : Thread nD τ) none) Set.univ (kont ⟨⟩) Q)
          -∗ wp frame (wpE (defs₀ (F := F)) vars0 (c : Thread nD τ) none) Set.univ (.op w kont) Q) := by
  subst hsm
  unfold debt
  iintro ⟨#HR, #HL, ⟨%W, HO⟩, Hc, Hat⟩ Hk
  iapply (Rounds.wp_wait_rest_token vars0 EGath (sched m) (c : Thread nD τ) none (κ := K (c, i)) (sm := semOf i) hw (Set.mem_univ _) ()
      (O := O) (W := W) (R := 0) (m := 0) (T := ∅) (by rw [Nat.zero_add]; exact ha)) $$ [HO Hc Hat]
  · isplitr; · iapply (records_inv m K (c, i)); iexact HR
    isplitl [Hc]; · iexact Hc
    isplitl [HO]; · iexact HO
    isplitr; · iapply (mayWait c (semOf i) hn hO); iexact HL
    iexact Hat
  iintro ⟨HO, Hat, -, Hp⟩
  ihave Hp := (Entails.of_eq hP) $$ Hp
  imod (Rounds.cell_close EGath (sched m) (Set.mem_univ (K (c, i))) (fun h => h) (R := 0 + 1) (duties_later m (cell (c, i)))) $$ [Hat] with Hz
  · isplitr; · iapply (records_inv m K (c, i)); iexact HR
    iexact Hat
  iapply Hk
  isplitl [HO]; · iexists _; iexact HO
  isplitl [Hz]; · iexact Hz
  iexact Hp

end Rules

end Cert.KernelIdeal.Gather

end
-- ==== Proof.DataI.lean ====
/-
# What the pipeline is told, and the pieces of a device's result

The launch's data: what each staging buffer holds before and after the kernel, what the kernel's body starts from and
ends with. Then the cutting of a device's result into its block and the landings, and its joining at the end.
-/
module

public import proofs.«01_k».proof.Proof.StepsI
public import Idealize.ShloMosaic.Lib.Pipeline.Value

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## Tokens -/

/-- Which duty: a cell's `false` duty, or the barrier's `true` one (`none`). -/
abbrev Token : Type := Option Which

/-- Device `x.1`'s duty `x.2`: its cell, round and name. -/
abbrev tokenOf (x : Dev nD × Token) : GSem nD τ sig × ℕ × Bool :=
  match x.2 with
  | none => (cell (x.1, none), 0, true)
  | some i => (cell (x.1, i), 0, false)

/-- On which device the duty lies that device `c` pays: the signal to the left pays the left neighbour's `true` duty,
    the signal to the right the right neighbour's `false` one, a copy its own sender's cell and the landing where it goes. -/
def payee : Token → Dev nD ≃ Dev nD
  | none => stepL
  | some none => stepR
  | some (some (false, _)) => Equiv.refl _
  | some (some (true, k)) => dir k

/-- A token, as a resource. -/
abbrev tok (x : Dev nD × Token) : sProp 𝕄 := dutyTok EGath (tokenOf x).1 (tokenOf x).2.1 (tokenOf x).2.2

/-! ## What a device has at the start -/

/-- Device `c`'s own: its place at round 0 of its nine cells and the tokens of the duties it pays. -/
def mine (c : Dev nD) : sProp 𝕄 :=
  iprop((bigSep Finset.univ fun i : Which => atPos EGath (cell (c, i)) 0 ∅ 0) ∗ bigSep Finset.univ fun t : Token => tok (F := F) (payee t c, t))

/-- The credit its neighbours' dues give device `c`. -/
def credits (c : Dev nD) : sProp 𝕄 :=
  iprop(cred (tallyAt (barC c) () 2) ∗ cred (tallyAt (rcvC 0 c) () (amt 0)) ∗ cred (tallyAt (rcvC 1 c) () (amt 1))
    ∗ cred (tallyAt (rcvC 2 c) () (amt 2)) ∗ cred (tallyAt (rcvC 3 c) () (amt 3)))

/-- What the body starts from, beside the staging buffers; -/
def entry (c : Dev nD) : sProp 𝕄 := iprop((∃ K, records m K ∗ mine (F := F) c) ∗ credits (F := F) c ∗ levAts lvls lev)
/-- and what it ends with: every one of its counters at zero. -/
def exit (c : Dev nD) : sProp 𝕄 := bigSep Finset.univ fun i : Which => semVal (cell (c, i)) 0

theorem which_list (Φ : Which → sProp 𝕄) : bigSep Finset.univ Φ
    = iprop(Φ none ∗ Φ (some (false, 0)) ∗ Φ (some (false, 1)) ∗ Φ (some (false, 2)) ∗ Φ (some (false, 3))
      ∗ Φ (some (true, 0)) ∗ Φ (some (true, 1)) ∗ Φ (some (true, 2)) ∗ Φ (some (true, 3))) :=
  bigSep_univ_eq_bigSepL [none, some (false, 0), some (false, 1), some (false, 2), some (false, 3), some (true, 0), some (true, 1),
    some (true, 2), some (true, 3)] (by decide) (by decide) Φ

theorem token_list (Φ : Token → sProp 𝕄) : bigSep Finset.univ Φ
    = iprop(Φ none ∗ Φ (some none) ∗ Φ (some (some (false, 0))) ∗ Φ (some (some (false, 1))) ∗ Φ (some (some (false, 2)))
      ∗ Φ (some (some (false, 3))) ∗ Φ (some (some (true, 0))) ∗ Φ (some (some (true, 1))) ∗ Φ (some (some (true, 2)))
      ∗ Φ (some (some (true, 3)))) :=
  bigSep_univ_eq_bigSepL [none, some none, some (some (false, 0)), some (some (false, 1)), some (some (false, 2)), some (some (false, 3)),
    some (some (true, 0)), some (some (true, 1)), some (some (true, 2)), some (some (true, 3))] (by decide) (by decide) Φ

/-- A device's own, one by one. -/
theorem mine_list (c : Dev nD) : (mine c : sProp 𝕄)
    = iprop((atPos EGath (barC c) 0 ∅ 0 ∗ atPos EGath (sndC 0 c) 0 ∅ 0 ∗ atPos EGath (sndC 1 c) 0 ∅ 0 ∗ atPos EGath (sndC 2 c) 0 ∅ 0
        ∗ atPos EGath (sndC 3 c) 0 ∅ 0 ∗ atPos EGath (rcvC 0 c) 0 ∅ 0 ∗ atPos EGath (rcvC 1 c) 0 ∅ 0 ∗ atPos EGath (rcvC 2 c) 0 ∅ 0
        ∗ atPos EGath (rcvC 3 c) 0 ∅ 0)
      ∗ dutyTok EGath (barC (lf c)) 0 true ∗ dutyTok EGath (barC (rt c)) 0 false
      ∗ dutyTok EGath (sndC 0 c) 0 false ∗ dutyTok EGath (sndC 1 c) 0 false ∗ dutyTok EGath (sndC 2 c) 0 false ∗ dutyTok EGath (sndC 3 c) 0 false
      ∗ dutyTok EGath (rcvC 0 (dir 0 c)) 0 false ∗ dutyTok EGath (rcvC 1 (dir 1 c)) 0 false ∗ dutyTok EGath (rcvC 2 (dir 2 c)) 0 false
      ∗ dutyTok EGath (rcvC 3 (dir 3 c)) 0 false) := by
  unfold mine; rw [which_list, token_list]; rfl

/-! ## The pipeline's data -/

/-- The `x` block is staged in and left as it is; the result's staging buffer ends as the gathered array. -/
def dats (_ : Fin 1) (c : Dev nD) : Dat τ (Elt F) Unit ℕ UA ℕ cfg0 c where
  A w := m ((cfg0.win w).arr.view.loc (c : Thread nD τ))
  after w _ := match w with
    | ⟨0, _⟩ => xstg m c
    | ⟨1, _⟩ => gath m c
  Φ t := match t with
    | ⟨0, _⟩ => entry m c
    | ⟨_ + 1, _⟩ => exit c
  q _ := fullShare
  owed t := match t with
    | ⟨0, _⟩ => owe5 c
    | ⟨_ + 1, _⟩ => 0

/-! ## Cutting and joining a device's result -/

/-- The result cut into the own block and the landings, -/
theorem cut (c : Dev nD) (f : (cc0_stg1_0 : Ref sig .tc).ty.Contents (Elt F)) :
    piece c Finset.univ fullShare f
      ⊣⊢ iprop(piece c (own c) fullShare f ∗ piece c (land 0 c) fullShare f ∗ piece c (land 1 c) fullShare f
          ∗ piece c (land 2 c) fullShare f ∗ piece c (land 3 c) fullShare f : sProp 𝕄) := by
  have h1 : (piece c Finset.univ fullShare f : sProp 𝕄) = piece c (own c ∪ (land 0 c ∪ (land 1 c ∪ (land 2 c ∪ land 3 c)))) fullShare f :=
    congrArg (fun S => piece c S fullShare f) (univ_eq c)
  rw [h1]
  exact (pointsTo_union (own_disj c)).trans (sep_congr_right ((pointsTo_union (land_disj0 c)).trans (sep_congr_right
    ((pointsTo_union (land_disj1 c)).trans (sep_congr_right (pointsTo_union (land_disj2 c)))))))

/-- The block from the left: what goes on, and what stays. -/
theorem cutL (c : Dev nD) (f : (cc0_stg1_0 : Ref sig .tc).ty.Contents (Elt F)) :
    piece c (land 0 c) fullShare f ⊣⊢ iprop(piece c (sent 2 c) fullShare f ∗ piece c (keepL c) fullShare f : sProp 𝕄) := by
  rw [land_0_split]; exact pointsTo_union (land_0_disj c)
/-- The block from the right: what stays, and what goes on. -/
theorem cutR (c : Dev nD) (f : (cc0_stg1_0 : Ref sig .tc).ty.Contents (Elt F)) :
    piece c (land 1 c) fullShare f ⊣⊢ iprop(piece c (keepR c) fullShare f ∗ piece c (sent 3 c) fullShare f : sProp 𝕄) := by
  rw [land_1_split]; exact pointsTo_union (land_1_disj c)
/-- The own block, half a share for each of the two copies that read it. -/
theorem halve (c : Dev nD) (f : (cc0_stg1_0 : Ref sig .tc).ty.Contents (Elt F)) :
    piece c (own c) fullShare f ⊣⊢ iprop(piece c (sent 0 c) (shr 0) f ∗ piece c (sent 1 c) (shr 1) f : sProp 𝕄) :=
  pointsTo_share (PosShare.mem_left_op_right fullShare)

/-! ## Loading `x` and storing the own block -/

theorem zero_off : (![0, 0] : Fin 2 → Nat) = fun _ => 0 := funext fun a => by fin_cases a <;> rfl

/-- The load of the whole `x` block. -/
theorem load_x (f : (cc0_stg0_0 : Ref sig .tc).ty.Contents (Elt F)) :
    xM.view.readAt (Elt F) (Rect.unit (s := S2048x512) ![0, 0] S2048x512.size inb_S2048x512_S2048x512_0_0).toLoadRect f = f :=
  Memref.readAt_unit_zero (Elt F) cc0_stg0_0 zero_off _ f

/-- The stored value is the loaded one. -/
theorem pay1_eq (v : Vec F S2048x512 .f32) : k0_pay1 v = v := shapeCast_self v _

/-- The gathered array at a row of the device's own block. -/
theorem gath_own (c : Dev nD) (i : (⟨2, ![8192, 512]⟩ : Shape).Idx) (x : (⟨2, ![2048, 512]⟩ : Shape).Idx)
    (h0 : (i 0).val = 2048 * (c.val % 4) + (x 0).val) (h1 : (i 1).val = (x 1).val) : gath m c i = xstg m c x := by
  have hx : (x 0).val < 2048 := (x 0).isLt
  have hd : holder c (i 0) = c := Fin.ext (by simp only [holder]; rw [h0]; omega)
  unfold gath
  rw [hd]
  refine congrArg (xstg m c) (Eq.trans ?_ (Shape.pair_eta (d := ![2048, 512]) x))
  exact congr (congrArg _ (Fin.ext (by show (i 0).val % 2048 = _; rw [h0]; omega))) (Fin.ext h1)

/-- The store of the `x` block into the own rows writes the gathered array's rows. -/
theorem stored (c : Dev nD) (f : (cc0_stg1_0 : Ref sig .tc).ty.Contents (Elt F)) :
    ∀ i ∈ own c, (oM.access (Rect.unit (s := S8192x512) (k0_off1 c) S2048x512.size (k0_off1_inb c))).write (Elt F) f (xstg m c) Finset.univ i
      = gath m c i := by
  intro i hi
  rw [← off1_rows c, ← Rect.map_emb_univ] at hi
  obtain ⟨x, -, rfl⟩ := Finset.mem_map.mp hi
  have hw := View.write_emb_of_mem (Val := Elt F) (v := oM.access (Rect.unit (s := S8192x512) (k0_off1 c) S2048x512.size (k0_off1_inb c))) f
    (xstg m c) (Finset.mem_univ x)
  have e : k0_off1 c = ![2048 * (c.val % 4), 0] := k0_off1_eq c
  refine (hw.trans (cast_eq _ _)).trans (gath_own m c _ x ?_ ?_).symm
  · refine (Rect.emb_apply _ x 0).trans ?_
    show k0_off1 c 0 + 1 * (x 0).val = _
    have : k0_off1 c 0 = 2048 * (c.val % 4) := congrFun e 0
    omega
  · refine (Rect.emb_apply _ x 1).trans ?_
    show k0_off1 c 1 + 1 * (x 1).val = _
    have : k0_off1 c 1 = 0 := congrFun e 1
    omega

end Cert.KernelIdeal.Gather

end
-- ==== Proof.BodyI.lean ====
/-
# The kernel's body, at a symbolic device

One rule per effect, in program order: two signals, the barrier's wait, the copy of the `x` block into the own rows, the
four copies and the four waits for what comes in, the four waits for what went out. At the end the device has its whole
result back, holding the gathered array, and its nine counters are at zero.
-/
module

public import proofs.«01_k».proof.Proof.DataI

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-- The rows sent and kept, back together: the whole result. -/
theorem joinAll (c : Dev nD) (g : (cc0_stg1_0 : Ref sig .tc).ty.Contents (Elt F)) :
    iprop((piece c (sent 0 c) (shr 0) g ∗ piece c (sent 1 c) (shr 1) g) ∗ (piece c (sent 2 c) fullShare g ∗ piece c (keepL c) fullShare g)
        ∗ (piece c (keepR c) fullShare g ∗ piece c (sent 3 c) fullShare g) ∗ piece c (land 2 c) fullShare g ∗ piece c (land 3 c) fullShare g)
      ⊢ (piece c Finset.univ fullShare g : sProp 𝕄) :=
  (BIClass.sep_mono (halve c g).2 (BIClass.sep_mono (cutL c g).2 (sep_mono_left (cutR c g).2))).trans (cut c g).2

/-- A result whose own rows were overwritten by the `x` block has the gathered array there. -/
theorem stored_piece (c : Dev nD) (f : (cc0_stg1_0 : Ref sig .tc).ty.Contents (Elt F)) :
    (piece c (own c) fullShare ((oM.access (Rect.unit (s := S8192x512) (k0_off1 c) S2048x512.size (k0_off1_inb c))).write (Elt F) f (k0_pay1 (xstg m c)) Finset.univ) : sProp 𝕄)
      = piece c (own c) fullShare (gath m c) := by
  rw [pay1_eq]; exact pointsTo_congr (stored m c f)

/-- The own rows, as the block the kernel stores into. -/
abbrev ownR (c : Dev nD) : Rect S8192x512 := Rect.unit (s := S8192x512) (k0_off1 c) S2048x512.size (k0_off1_inb c)
theorem ownR_set (c : Dev nD) : (oM.access (ownR c)).set ⊆ own c := ((View.set_slice_whole _ _).trans (off1_rows c)).subset

/-- The two landings handed to the left neighbour, as its barrier's payload; -/
theorem hand_left (c : Dev nD) (f : (cc0_stg1_0 : Ref sig .tc).ty.Contents (Elt F)) :
    iprop(piece c (land 0 c) fullShare f ∗ piece c (land 2 c) fullShare f) ⊢ (barPay (lf c) true : sProp 𝕄) :=
  BIClass.sep_mono (room_of_land 0 c f) (room_of_land 2 c f)
/-- and the two handed to the right one. -/
theorem hand_right (c : Dev nD) (f : (cc0_stg1_0 : Ref sig .tc).ty.Contents (Elt F)) :
    iprop(piece c (land 1 c) fullShare f ∗ piece c (land 3 c) fullShare f) ⊢ (barPay (rt c) false : sProp 𝕄) :=
  BIClass.sep_mono (room_of_land 1 c f) (room_of_land 3 c f)

abbrev xPiece (c : Dev nD) : sProp 𝕄 := (((c : Thread nD τ).loc cc0_stg0_0) ↦{fullShare} (xstg m c))

set_option maxHeartbeats 4000000 in
set_option maxRecDepth 8000 in
/-- The body: from a device's own, its credit, its staging buffers and what it owes, to nothing owed, every counter at zero
    and the gathered array in the result's staging buffer. -/
theorem run_body (K : Dev nD × Which → ℕ) (c : Dev nD) (f : (cc0_stg1_0 : Ref sig .tc).ty.Contents (Elt F)) (Kt : PUnit → sProp 𝕄) :
    iprop((records m K ∗ mine (F := F) c ∗ credits (F := F) c ∗ levAts lvls lev ∗ debt c (owe5 c) ∗ xPiece m c ∗ piece c Finset.univ fullShare f)
        ∗ ((exit c ∗ debt c 0 ∗ xPiece m c ∗ piece c Finset.univ fullShare (gath m c)) -∗ Kt ⟨⟩))
      ⊢ wp frame (wpE (defs₀ (F := F)) vars0 (c : Thread nD τ) none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  rw [mine_list]
  unfold credits
  iintro ⟨⟨#HR, ⟨⟨HaB, HaS0, HaS1, HaS2, HaS3, HaV0, HaV1, HaV2, HaV3⟩, HtL, HtR, HtS0, HtS1, HtS2, HtS3, HtV0, HtV1, HtV2, HtV3⟩,
    ⟨HcB, HcV0, HcV1, HcV2, HcV3⟩, #HL, HO, Hx, Hout⟩, Hk⟩
  ihave Hcut := (cut c f).1 $$ Hout
  icases Hcut with ⟨Hown, Hl0, Hl1, Hl2, Hl3⟩
  -- the signal to the left: the landings of copies 0 and 2 go along
  iapply (wp_tell m K c _ (lf c) (dev1_eq c) true (owe4 c)) $$ [HO HtL Hl0 Hl2]
  · isplitr; · iexact HR
    isplitl [HO]; · iexact HO
    isplitl [HtL]; · iexact HtL
    iapply (hand_left c f)
    isplitl [Hl0]; · iexact Hl0
    iexact Hl2
  iintro HO
  -- the signal to the right: the landings of copies 1 and 3
  iapply (wp_tell m K c _ (rt c) (dev2_eq c) false (owe3 c)) $$ [HO HtR Hl1 Hl3]
  · isplitr; · iexact HR
    isplitl [HO]; · iexact HO
    isplitl [HtR]; · iexact HtR
    iapply (hand_right c f)
    isplitl [Hl1]; · iexact Hl1
    iexact Hl3
  iintro HO
  -- the wait at the barrier: the neighbours' landings
  iapply (wp_await m K c none _ rfl (wpE_semWait_eq vars0 (c : Thread nD τ) none Set.univ) (by rw [expect_bar]; rfl) _ (rest_bar m c)
      rfl (over_owe3 c)) $$ [HO HcB HaB]
  · isplitr; · iexact HR
    isplitr; · iexact HL
    isplitl [HO]; · iexact HO
    isplitl [HcB]; · iexact HcB
    iexact HaB
  iintro ⟨HO, HzB, ⟨Hr1, Hr3⟩, Hr0, Hr2⟩
  -- the `x` block into the own rows
  iapply (wp_load vars0 (c : Thread nD τ) none Set.univ (m := xM) (Finset.subset_univ _)) $$ Hx; iintro Hx
  rw [load_x]
  iapply (wp_load_rect vars0 (c : Thread nD τ) none Set.univ (m := oM) (r := ownR c) (S := own c) (ownR_set c)) $$ Hown; iintro Hown
  iapply (wp_store vars0 (c : Thread nD τ) none Set.univ (m := oM) (r := ownR c) (Mk := Finset.univ) (S := own c) (ownR_set c)) $$ Hown; iintro Hown
  ihave Hown := (Entails.of_eq (stored_piece m c f)) $$ Hown
  ihave Hown := (halve c (gath m c)).1 $$ Hown
  icases Hown with ⟨Ho0, Ho1⟩
  -- the own block to the right
  iapply (wp_copy m K c 0 _ (dev3_eq c) _ _ _ (off2_rows c) rfl _ _ rfl rfl (owe2 c)) $$ [HO Ho0 Hr0 HtS0 HtV0]
  · isplitr; · iexact HR
    isplitl [HO]; · iexact HO
    isplitl [Ho0]; · iexact Ho0
    isplitl [Hr0]; · iexact Hr0
    isplitl [HtS0]; · iexact HtS0
    iexact HtV0
  iintro ⟨HcS0, HO⟩
  -- and to the left
  iapply (wp_copy m K c 1 _ (dev4_eq c) _ _ _ (off2_rows c) rfl _ _ rfl rfl (owe1 c)) $$ [HO Ho1 Hr1 HtS1 HtV1]
  · isplitr; · iexact HR
    isplitl [HO]; · iexact HO
    isplitl [Ho1]; · iexact Ho1
    isplitl [Hr1]; · iexact Hr1
    isplitl [HtS1]; · iexact HtS1
    iexact HtV1
  iintro ⟨HcS1, HO⟩
  -- the left neighbour's block comes in, and half of it goes on
  iapply (wp_await m K c (some (true, 0)) _ rfl (wpE_waitDma2_eq vars0 (c : Thread nD τ) none Set.univ) (expect_rcv m 0 c).symm
      (piece c (land 0 c) fullShare (gath m c)) (rest_rcv m 0 c)
      rfl (over_owe1 c)) $$ [HO HcV0 HaV0]
  · isplitr; · iexact HR
    isplitr; · iexact HL
    isplitl [HO]; · iexact HO
    isplitl [HcV0]; · iexact HcV0
    iexact HaV0
  iintro ⟨HO, HzV0, Hin⟩
  ihave Hin := (cutL c (gath m c)).1 $$ Hin
  icases Hin with ⟨Ho2, HkL⟩
  iapply (wp_copy m K c 2 _ (dev5_eq c) _ _ _ (off3_rows c) rfl _ _ rfl rfl (due 3 c)) $$ [HO Ho2 Hr2 HtS2 HtV2]
  · isplitr; · iexact HR
    isplitl [HO]; · iexact HO
    isplitl [Ho2]; · iexact Ho2
    isplitl [Hr2]; · iexact Hr2
    isplitl [HtS2]; · iexact HtS2
    iexact HtV2
  iintro ⟨HcS2, HO⟩
  -- the right neighbour's
  iapply (wp_await m K c (some (true, 1)) _ rfl (wpE_waitDma2_eq vars0 (c : Thread nD τ) none Set.univ) (expect_rcv m 1 c).symm
      (piece c (land 1 c) fullShare (gath m c)) (rest_rcv m 1 c)
      rfl (over_due3 c)) $$ [HO HcV1 HaV1]
  · isplitr; · iexact HR
    isplitr; · iexact HL
    isplitl [HO]; · iexact HO
    isplitl [HcV1]; · iexact HcV1
    iexact HaV1
  iintro ⟨HO, HzV1, Hin⟩
  ihave Hin := (cutR c (gath m c)).1 $$ Hin
  icases Hin with ⟨HkR, Ho3⟩
  iapply (wp_copy m K c 3 _ (dev6_eq c) _ _ _ (off4_rows c) rfl _ _ rfl rfl 0) $$ [HO Ho3 Hr3 HtS3 HtV3]
  · isplitr; · iexact HR
    isplitl [HO]; · rw [zero_add]; iexact HO
    isplitl [Ho3]; · iexact Ho3
    isplitl [Hr3]; · iexact Hr3
    isplitl [HtS3]; · iexact HtS3
    iexact HtV3
  iintro ⟨HcS3, HO⟩
  -- the two halves of the block from across
  iapply (wp_await m K c (some (true, 2)) _ rfl (wpE_waitDma2_eq vars0 (c : Thread nD τ) none Set.univ) (expect_rcv m 2 c).symm
      (piece c (land 2 c) fullShare (gath m c)) (rest_rcv m 2 c)
      rfl (over_zero _)) $$ [HO HcV2 HaV2]
  · isplitr; · iexact HR
    isplitr; · iexact HL
    isplitl [HO]; · iexact HO
    isplitl [HcV2]; · iexact HcV2
    iexact HaV2
  iintro ⟨HO, HzV2, Hl2⟩
  iapply (wp_await m K c (some (true, 3)) _ rfl (wpE_waitDma2_eq vars0 (c : Thread nD τ) none Set.univ) (expect_rcv m 3 c).symm
      (piece c (land 3 c) fullShare (gath m c)) (rest_rcv m 3 c)
      rfl (over_zero _)) $$ [HO HcV3 HaV3]
  · isplitr; · iexact HR
    isplitr; · iexact HL
    isplitl [HO]; · iexact HO
    isplitl [HcV3]; · iexact HcV3
    iexact HaV3
  iintro ⟨HO, HzV3, Hl3⟩
  -- what was sent comes back
  iapply (wp_await m K c (some (false, 0)) _ rfl (wpE_waitDma2_eq vars0 (c : Thread nD τ) none Set.univ) (expect_snd m 0 c).symm
      (piece c (sent 0 c) (shr 0) (gath m c)) (rest_snd m 0 c)
      rfl (over_zero _)) $$ [HO HcS0 HaS0]
  · isplitr; · iexact HR
    isplitr; · iexact HL
    isplitl [HO]; · iexact HO
    isplitl [HcS0]; · iexact HcS0
    iexact HaS0
  iintro ⟨HO, HzS0, Ho0⟩
  iapply (wp_await m K c (some (false, 1)) _ rfl (wpE_waitDma2_eq vars0 (c : Thread nD τ) none Set.univ) (expect_snd m 1 c).symm
      (piece c (sent 1 c) (shr 1) (gath m c)) (rest_snd m 1 c)
      rfl (over_zero _)) $$ [HO HcS1 HaS1]
  · isplitr; · iexact HR
    isplitr; · iexact HL
    isplitl [HO]; · iexact HO
    isplitl [HcS1]; · iexact HcS1
    iexact HaS1
  iintro ⟨HO, HzS1, Ho1⟩
  iapply (wp_await m K c (some (false, 2)) _ rfl (wpE_waitDma2_eq vars0 (c : Thread nD τ) none Set.univ) (expect_snd m 2 c).symm
      (piece c (sent 2 c) (shr 2) (gath m c)) (rest_snd m 2 c)
      rfl (over_zero _)) $$ [HO HcS2 HaS2]
  · isplitr; · iexact HR
    isplitr; · iexact HL
    isplitl [HO]; · iexact HO
    isplitl [HcS2]; · iexact HcS2
    iexact HaS2
  iintro ⟨HO, HzS2, Ho2⟩
  iapply (wp_await m K c (some (false, 3)) _ rfl (wpE_waitDma2_eq vars0 (c : Thread nD τ) none Set.univ) (expect_snd m 3 c).symm
      (piece c (sent 3 c) (shr 3) (gath m c)) (rest_snd m 3 c)
      rfl (over_zero _)) $$ [HO HcS3 HaS3]
  · isplitr; · iexact HR
    isplitr; · iexact HL
    isplitl [HO]; · iexact HO
    isplitl [HcS3]; · iexact HcS3
    iexact HaS3
  iintro ⟨HO, HzS3, Ho3⟩
  rw [wp_ret]; imodintro
  iapply Hk
  isplitl [HzB HzS0 HzS1 HzS2 HzS3 HzV0 HzV1 HzV2 HzV3]
  · unfold exit; rw [which_list]
    isplitl [HzB]; · iexact HzB
    isplitl [HzS0]; · iexact HzS0
    isplitl [HzS1]; · iexact HzS1
    isplitl [HzS2]; · iexact HzS2
    isplitl [HzS3]; · iexact HzS3
    isplitl [HzV0]; · iexact HzV0
    isplitl [HzV1]; · iexact HzV1
    isplitl [HzV2]; · iexact HzV2
    iexact HzV3
  isplitl [HO]; · iexact HO
  isplitl [Hx]; · iexact Hx
  iapply (joinAll c (gath m c))
  isplitl [Ho0 Ho1]
  · isplitl [Ho0]; · iexact Ho0
    iexact Ho1
  isplitl [Ho2 HkL]
  · isplitl [Ho2]; · iexact Ho2
    iexact HkL
  isplitl [HkR Ho3]
  · isplitl [HkR]; · iexact HkR
    iexact Ho3
  isplitl [Hl2]; · iexact Hl2
  iexact Hl3

end Cert.KernelIdeal.Gather

end
-- ==== Proof.LaunchI.lean ====
/-
# The launch

The kernel's semaphores at zero and the tokens become the protocol's cells, dealt to the devices; then the library's
launch theorem gives the run: every device's arrays at the end, every counter at zero.
-/
module

public import proofs.«01_k».proof.Proof.BodyI
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## The body, as the library asks for it -/

/-- A staging buffer of device `c` holding `X`, as the pipeline hands it over. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UA) (Lvl := ℕ) (c : Thread nD τ) (Memref.whole b) fullShare X : sProp 𝕄) = staged c b X := by
  unfold owns; simp only [Memref.view_whole, View.read_whole, View.set_whole]

set_option maxRecDepth 4000 in
/-- The library's obligation on the body of device `c`. -/
theorem body_ok (c : Dev nD) : BodyObligation (dats (F := F) m 0 c) (defs₀ (F := F)) vars0 () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_staged]
  show iprop(entry m c ∗ (dats m 0 c).owesAt () t0_0.castSucc
      ∗ (∃ d, staged c cc0_stg0_0 ((dats m 0 c).before (0 : Fin 2) t0_0 d)) ∗ (∃ d, staged c cc0_stg1_0 ((dats m 0 c).before (1 : Fin 2) t0_0 d)))
    ⊢ wp frame (wpE (defs₀ (F := F)) vars0 c none) Set.univ
      (cc0_body (Memref.whole cc0_stg0_0) (Memref.isWhole_whole _) (Memref.whole cc0_stg1_0) (Memref.isWhole_whole _) cc0_scratch0 cc0_scratch1)
      (fun _ => iprop(exit c ∗ (dats m 0 c).owesAt () t0_0.succ ∗ staged c cc0_stg0_0 (xstg m c) ∗ staged c cc0_stg1_0 (gath m c)))
  unfold entry Dat.owesAt Pipeline.owesWithin
  iintro ⟨⟨⟨%K, #HR, Hm⟩, Hc, #HL⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  iapply (run_body m K c g1)
  isplitr []
  · isplitr; · iexact HR
    isplitl [Hm]; · iexact Hm
    isplitl [Hc]; · iexact Hc
    isplitr; · iexact HL
    isplitl [HO]; · unfold debt; iexists W; iexact HO
    isplitl [Hx]; · iexact Hx
    iexact Hout
  · unfold debt
    iintro ⟨He, ⟨%W', HO⟩, Hx, Hout⟩
    isplitl [He]; · iexact He
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

/-! ## Cells and tokens at the start -/

/-- The kernel's own eight semaphores. -/
abbrev ownSem : Bool × Fin 4 → SemLoc sig := fun i => semOf (some i)

theorem token_injective : Function.Injective tokenOf := by
  rintro ⟨c, t⟩ ⟨d, u⟩ h
  rcases t with _ | i <;> rcases u with _ | j
  · have h1 := cell_injective (congrArg Prod.fst h)
    exact congrArg (fun e => (e, none)) (Prod.mk.inj h1).1
  · exact absurd (congrArg (fun x : GSem nD τ sig × ℕ × Bool => x.2.2) h) (by simp)
  · exact absurd (congrArg (fun x : GSem nD τ sig × ℕ × Bool => x.2.2) h) (by simp)
  · have h1 := cell_injective (congrArg Prod.fst h)
    exact congrArg (fun x : Dev nD × Which => (x.1, some x.2)) h1

/-- All cells, -/
def allCells : Finset (GSem nD τ sig) := Finset.univ.map ⟨cell, cell_injective⟩
/-- all tokens, -/
def allTokens : Finset (GSem nD τ sig × ℕ × Bool) := Finset.univ.map ⟨tokenOf, token_injective⟩
/-- and the ghost state the launch makes of them. -/
def ghost0 : UA :=
  (initOf (Pipeline.cells cfgs cellOf_inj) (Pipeline.launchToks cfgs cellOf_inj), initOf allCells allTokens)

/-- What is dealt to device `c` of its own cells: their states, its places and marks, their tokens. -/
def dealt (c : Dev nD) : sProp 𝕄 :=
  iprop((bigSep Finset.univ fun i : Which => roundState EGath (sched m) (cell (c, i)) 0)
    ∗ (bigSep Finset.univ fun i : Which => atPos EGath (cell (c, i)) 0 ∅ 0)
    ∗ (bigSep Finset.univ fun i : Which => reached EGath (cell (c, i)) 0)
    ∗ bigSep Finset.univ fun t : Token => tok (F := F) (c, t))

/-- What it has after the cells are set up. -/
def ready (c : Dev nD) : sProp 𝕄 := iprop(∃ K, records m K ∗ mine (F := F) c)

theorem cells_by_device (Φ : GSem nD τ sig → sProp 𝕄) :
    bigSep allCells Φ = bigSep Finset.univ fun c : Dev nD => bigSep Finset.univ fun i : Which => Φ (cell (c, i)) := by
  unfold allCells; rw [bigSep_map, bigSep_univ_prod]; rfl

theorem tokens_by_device : bigSep allTokens (fun x => (dutyTok EGath x.1 x.2.1 x.2.2 : sProp 𝕄))
    = bigSep Finset.univ fun c : Dev nD => bigSep Finset.univ fun t : Token => tok (c, t) := by
  unfold allTokens; rw [bigSep_map, bigSep_univ_prod]; rfl

/-- The ghost state, dealt out. -/
theorem deal : BI.own (EGath (initOf allCells allTokens)) ⊢ (|==> bigSep Finset.univ (dealt m) : sProp 𝕄) := by
  iintro HX
  imod (Rounds.fund EGath (sched m) allCells allTokens) $$ HX with ⟨Hst, Hr, Hat, Htok⟩
  imodintro
  ihave Hst := (Entails.of_eq (cells_by_device fun g => roundState EGath (sched m) g 0)) $$ Hst
  ihave Hat := (Entails.of_eq (cells_by_device fun g => atPos EGath g 0 ∅ 0)) $$ Hat
  ihave Hr := (Entails.of_eq (cells_by_device fun g => reached EGath g 0)) $$ Hr
  ihave Htok := (Entails.of_eq tokens_by_device) $$ Htok
  unfold dealt; simp only [bigSep_sep']
  isplitl [Hst]; · iexact Hst
  isplitl [Hat]; · iexact Hat
  isplitl [Hr] <;> iassumption

/-! ## Setting up the cells -/

theorem ownSem_facts : Pipeline.OwnSemFacts cfg0.spec ownSem := by decide

theorem ownSems_list (c : Dev nD) : (Pipeline.ownSems0 (Ix := Unit) (Name := ℕ) (U := UA) (Lvl := ℕ) (Val := Elt F) (τ := τ) ownSem c : sProp 𝕄)
    = iprop(semVal (sndC 0 c) 0 ∗ semVal (sndC 1 c) 0 ∗ semVal (sndC 2 c) 0 ∗ semVal (sndC 3 c) 0
      ∗ semVal (rcvC 0 c) 0 ∗ semVal (rcvC 1 c) 0 ∗ semVal (rcvC 2 c) 0 ∗ semVal (rcvC 3 c) 0) := by
  rw [Pipeline.ownSems0_eq_of_list c ownSem [(false, 0), (false, 1), (false, 2), (false, 3), (true, 0), (true, 1), (true, 2), (true, 3)]
    (by decide) (by decide)]
  rfl

/-- The barrier's is the one semaphore that is not the kernel's own. -/
theorem barSem_list (c : Dev nD) : (unscopedSems0 c : sProp 𝕄) = semVal (barC c) 0 := by
  unfold unscopedSems0; rw [bigSep_eq_bigSepL_of_eq [SemLoc.reg barS] (by decide) (by decide)]; rfl

/-- The own semaphores and the barrier's are the nine of the protocol. -/
theorem sems_nine (c : Dev nD) :
    iprop(unscopedSems0 c ∗ Pipeline.ownSems0 (Ix := Unit) (Name := ℕ) (U := UA) (Lvl := ℕ) (Val := Elt F) (τ := τ) ownSem c) = (exit c : sProp 𝕄) := by
  unfold exit; rw [which_list, ownSems_list, barSem_list]

/-- One device's cells set up. -/
theorem set_up (c : Dev nD) :
    iprop(Pipeline.ownSems0 (Ix := Unit) (Name := ℕ) (U := UA) (Lvl := ℕ) (Val := Elt F) (τ := τ) ownSem c ∗ unscopedSems0 c ∗ dealt m c)
      ⊢ |={Set.univ}=> iprop((bigSep Finset.univ fun i : Which => iprop(∃ κ : ℕ, cellInv EGath (sched m) κ (cell (c, i))))
          ∗ (bigSep Finset.univ fun i : Which => reached EGath (cell (c, i)) 0)
          ∗ (bigSep Finset.univ fun i : Which => atPos EGath (cell (c, i)) 0 ∅ 0)
          ∗ bigSep Finset.univ fun t : Token => tok (F := F) (c, t)) := by
  have hinv : iprop(exit c ∗ bigSep Finset.univ fun i : Which => roundState EGath (sched m) (cell (c, i)) 0)
      ⊢ (|={Set.univ}=> bigSep Finset.univ fun i : Which => iprop(∃ κ : ℕ, cellInv EGath (sched m) κ (cell (c, i))) : sProp 𝕄) := by
    unfold exit; rw [← bigSep_sep']
    exact (bigSep_mono fun i _ => (Rounds.body_intro EGath (sched m) (cell (c, i))).trans inv_alloc).trans (bigSep_fupd _ _)
  unfold dealt
  iintro ⟨Ho, Hb, Hst, Hat, Hr, Ht⟩
  ihave Hv := (Entails.of_eq (sems_nine (F := F) c)) $$ [Ho Hb]
  · isplitl [Hb] <;> iassumption
  imod hinv $$ [Hv Hst] with HI
  · isplitl [Hv] <;> iassumption
  imodintro
  isplitl [HI]; · iexact HI
  isplitl [Hr]; · iexact Hr
  isplitl [Hat]; · iexact Hat
  iexact Ht

/-- The tokens go from the devices whose cells they are of to the devices that pay them. -/
theorem tokens_move : (bigSep Finset.univ fun c : Dev nD => bigSep Finset.univ fun t : Token => tok (F := F) (c, t))
    = bigSep Finset.univ fun c : Dev nD => bigSep Finset.univ fun t : Token => tok (payee t c, t) := by
  let e : Dev nD × Token ≃ Dev nD × Token :=
    { toFun := fun x => (payee x.2 x.1, x.2)
      invFun := fun x => ((payee x.2).symm x.1, x.2)
      left_inv := fun x => Prod.ext (Equiv.symm_apply_apply _ _) rfl
      right_inv := fun x => Prod.ext (Equiv.apply_symm_apply _ _) rfl }
  rw [← bigSep_univ_prod (fun x : Dev nD × Token => tok (F := F) x), bigSep_univ_equiv e, bigSep_univ_prod]
  rfl

/-- Everything of all devices, regrouped: the records to every device, to each its own. -/
theorem share_out :
    (bigSep Finset.univ fun c : Dev nD => iprop((bigSep Finset.univ fun i : Which => iprop(∃ κ : ℕ, cellInv EGath (sched m) κ (cell (c, i))))
          ∗ (bigSep Finset.univ fun i : Which => reached EGath (cell (c, i)) 0)
          ∗ (bigSep Finset.univ fun i : Which => atPos EGath (cell (c, i)) 0 ∅ 0)
          ∗ bigSep Finset.univ fun t : Token => tok (F := F) (c, t)) : sProp 𝕄)
      ⊢ bigSep Finset.univ (ready m) := by
  rw [bigSep_sep', bigSep_sep', bigSep_sep', ← bigSep_univ_prod (fun x : Dev nD × Which => iprop(∃ κ : ℕ, cellInv EGath (sched m) κ (cell x))),
    ← bigSep_univ_prod (fun x : Dev nD × Which => (reached EGath (cell x) 0 : sProp 𝕄)), tokens_move]
  iintro ⟨HI, #HR, Hat, Htok⟩
  ihave HK := (BI.bigSep_exists_pi Finset.univ (fun (x : Dev nD × Which) (κ : ℕ) => (cellInv EGath (sched m) κ (cell x) : sProp 𝕄))) $$ HI
  icases HK with ⟨%K, #HI⟩
  have hone : ∀ c ∈ (Finset.univ : Finset (Dev nD)), iprop(records m K ∗ mine c) ⊢ (ready m c : sProp 𝕄) := fun c _ => by
    unfold ready; iintro H; iexists K; iexact H
  have hall : iprop(records m K ∗ bigSep Finset.univ fun c : Dev nD => mine (F := F) c) ⊢ bigSep Finset.univ (ready m) :=
    (sep_mono_left (BI.bigSep_of_persistent Finset.univ (records m K))).trans (by rw [← bigSep_sep']; exact bigSep_mono hone)
  iapply hall
  isplitr
  · unfold records; isplitl; · iexact HI
    iexact HR
  · have hm : iprop((bigSep Finset.univ fun c : Dev nD => bigSep Finset.univ fun i : Which => (atPos EGath (cell (c, i)) 0 ∅ 0 : sProp 𝕄))
        ∗ bigSep Finset.univ fun c : Dev nD => bigSep Finset.univ fun t : Token => tok (payee t c, t))
        ⊢ bigSep Finset.univ fun c : Dev nD => mine (F := F) c := by
      unfold mine; rw [bigSep_sep']
    iapply hm
    isplitl [Hat]; · iexact Hat
    iexact Htok

/-- The whole setting up, at all devices under one update. -/
theorem set_up_all :
    (bigSep Finset.univ fun c => iprop(Pipeline.ownSems0 (Ix := Unit) (Name := ℕ) (U := UA) (Lvl := ℕ) (Val := Elt F) (τ := τ) ownSem c
      ∗ unscopedSems0 c ∗ dealt m c) : sProp 𝕄) ⊢ |={Set.univ}=> bigSep Finset.univ (ready m) :=
  ((bigSep_mono fun c _ => set_up m c).trans (bigSep_fupd _ _)).trans (BI.fupd_mono (share_out m))

/-! ## The launch's credit -/

/-- What all devices owe a copy's landings is that landing's credit on every device. -/
theorem credit_due (k : Fin 4) (c : Dev nD) : (Pipeline.launchCred (fun d => due k d) c : sProp 𝕄) ⊢ cred (tallyAt (rcvC k c) () (amt k)) :=
  Pipeline.launchCred_tallyAt (.dma (rcvS k)) (dir k) (dir k).symm (Equiv.apply_symm_apply _) (Equiv.symm_apply_apply _) () (amt k) c

/-- The whole launch credit of a device: two units at its barrier, the four landings. -/
theorem credits_intro (c : Dev nD) : (Pipeline.launchCred owe5 c : sProp 𝕄) ⊢ credits c := by
  have hL : (Pipeline.launchCred (fun d => tallyAt (barC (lf d)) () 1) c : sProp 𝕄) ⊢ cred (tallyAt (barC c) () 1) :=
    Pipeline.launchCred_tallyAt (.reg barS) lf rt lf_rt rt_lf () 1 c
  have hR : (Pipeline.launchCred (fun d => tallyAt (barC (rt d)) () 1) c : sProp 𝕄) ⊢ cred (tallyAt (barC c) () 1) :=
    Pipeline.launchCred_tallyAt (.reg barS) rt lf rt_lf lf_rt () 1 c
  have h5 : (Pipeline.launchCred owe5 c : sProp 𝕄)
      = iprop(((((Pipeline.launchCred (fun d => due 3 d) c ∗ Pipeline.launchCred (fun d => due 2 d) c) ∗ Pipeline.launchCred (fun d => due 1 d) c)
          ∗ Pipeline.launchCred (fun d => due 0 d) c) ∗ Pipeline.launchCred (fun d => tallyAt (barC (rt d)) () 1) c)
          ∗ Pipeline.launchCred (fun d => tallyAt (barC (lf d)) () 1) c) := by
    rw [← Pipeline.launchCred_add, ← Pipeline.launchCred_add, ← Pipeline.launchCred_add, ← Pipeline.launchCred_add, ← Pipeline.launchCred_add]; rfl
  have h2 : (tallyAt (barC c) () 1 : CellTallies nD τ sig Unit) + tallyAt (barC c) () 1 = tallyAt (barC c) () 2 :=
    tallyAt_add (barC c) () 1 1
  rw [h5]
  unfold credits
  iintro ⟨⟨⟨⟨⟨H3, H2⟩, H1⟩, H0⟩, HR⟩, HL⟩
  ihave HR := hR $$ HR
  ihave HL := hL $$ HL
  isplitl [HR HL]
  · rw [← h2]; iapply (cred_add _ _).2
    isplitl [HR] <;> iassumption
  isplitl [H0]; · iapply (credit_due 0 c); iexact H0
  isplitl [H1]; · iapply (credit_due 1 c); iexact H1
  isplitl [H2]; · iapply (credit_due 2 c); iexact H2
  iapply (credit_due 3 c); iexact H3

/-! ## The run -/

variable (ρ : Dev nD → PrngReg)

theorem enter (c : Dev nD) :
    iprop(Pipeline.unscopedRestP Pipeline.Prefetch.none cfg0.spec c (fun b => m ((c : Thread nD τ).loc b)) ∗ levAts lvls lev
        ∗ Pipeline.launchCred owe5 c ∗ prngReg c (ρ c) ∗ ready m c)
      ⊢ |={Set.univ}=> iprop(entry m c ∗ emp) := by
  iintro ⟨-, HL, Hc, -, Hm⟩
  ihave Hc := (credits_intro (F := F) c) $$ Hc
  imodintro
  unfold entry ready
  isplitl
  · isplitl [Hm]; · iexact Hm
    isplitl [Hc]; · iexact Hc
    iexact HL
  · iempintro

theorem begin_body (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = entry m c from rfl, scopedRest0_eq]
  iintro ⟨H, -, -⟩; iexact H

theorem end_body (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = exit c from rfl, scopedRest0_eq, ← sems_nine]
  iintro ⟨H1, H2⟩
  isplitl [H1]; · iexact H1
  isplitl [H2]; · iexact H2
  iempintro

theorem stage_level (c : Dev nD) : ∀ (w : Fin cfg0.W) (s : Fin (cfg0.win w).nbuf), lev ((c : Thread nD τ), .dma ((cfg0.win w).sem s)) () = 0 := by
  intro w s; fin_cases w <;> fin_cases s <;> rfl

theorem may_stage (c : Dev nD) : (levAts lvls lev : sProp 𝕄) ⊢ Pipeline.cellsWaits cfgs (dats m) () 0 c :=
  Pipeline.cellsWaits_intro cfgs (dats m) () 0 c fun w s t =>
    mayWait c _ (stage_level c w s) (by
      rcases t with ⟨_ | _, ht⟩
      · exact over_owe5 c
      · exact over_zero 0)

/-- An array of device `c` at the end. -/
def ends (c : Dev nD) (w : Fin cfg0.W) : Buf (Elt F) ((cfg0.win w).arr.view.loc (c : Thread nD τ)) := (dats m 0 c).arrAt w cfg0.N

set_option maxRecDepth 8000 in
/-- Every fair execution of the 32 devices ends, with every device's arrays as computed and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = ends m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EPipe defs₀ vars0 m ρ main
    (hmain := fun _ => rfl)
    (hbody := body_ok m) (hne := fun w => by fin_cases w <;> exact Nat.succ_pos _) (harr := arr_whole0) (hstage := stage_whole0)
    (hshare := fun c w => by unfold Dat.share; split <;> rfl)
    (hdistinct := winFacts0.arr_inj)
    (O₀ := owe5) (howed₀ := fun _ => rfl) (howedN := fun _ => rfl)
    (L := lvls) (lv := lev) (hL := lvls_ne) (hwaits := may_stage m)
    (G := dealt m) (G' := ready m) (u₀ := ghost0)
    (hu₀ := by
      unfold ghost0
      iintro Hu
      ihave H := (ownU_pair _ _) $$ Hu
      icases H with ⟨HP, HX⟩
      imod (deal m) $$ HX with HG
      imodintro
      isplitl [HP] <;> iassumption)
    (hglob := set_up_all m)
    (hA := fun _ _ => rfl) (hpf := fun _ k => k.elim0)
    (X := entry m) (Y := fun c => unscopedSems0 c) (Z := fun _ => iprop(emp))
    (hX := enter m ρ) (hin := begin_body m) (hout := end_body m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gather

end
-- ==== Proof.ValueI.lean ====
/-
# What the devices hold at the end

Every device's result is the gathered array of its ring and its argument is as it was. Where the devices' arguments are
the blocks of one array along the mesh's last axis, every ring gathers that array.
-/
module

public import proofs.«01_k».proof.Proof.LaunchI
public import Idealize.ShloMosaic.Lib.Layout

@[expose] public section

noncomputable section

namespace Cert.KernelIdeal.Gather

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ)

/-- The argument array is left alone. -/
theorem ends_arg (c : Dev nD) : ends m c (0 : Fin 2) = m ((c : Thread nD τ).loc main_arg0) :=
  (dats m 0 c).arrAt_in (0 : Fin 2) rfl _

/-- The one write-back's block is the whole result: its offset is zero on both axes, its size the array's. -/
theorem block_whole (i : S8192x512.Idx) : i ∈ ((cfg0.win (1 : Fin 2)).blk t0_0).view.set := by
  have e : ((cfg0.win (1 : Fin 2)).blk t0_0).view.set = (win0_1.rect t0_0).set := View.set_slice_whole main_v1 (win0_1.rect t0_0)
  rw [e, Rect.mem_set_unit]
  have h0 : (i 0).val < 8192 := (i 0).isLt
  have h1 : (i 1).val < 512 := (i 1).isLt
  have z0 : win0_1.index t0_0 0 * win0_1.size 0 = 0 := by decide +kernel
  have z1 : win0_1.index t0_0 1 * win0_1.size 1 = 0 := by decide +kernel
  have s0 : win0_1.xsize (grid0.coords t0_0) 0 = 8192 := by decide +kernel
  have s1 : win0_1.xsize (grid0.coords t0_0) 1 = 512 := by decide +kernel
  intro a
  match a with
  | ⟨0, _⟩ => exact ⟨z0.le.trans (Nat.zero_le _), by show (i 0).val < win0_1.index t0_0 0 * win0_1.size 0 + win0_1.xsize (grid0.coords t0_0) 0; omega⟩
  | ⟨1, _⟩ => exact ⟨z1.le.trans (Nat.zero_le _), by show (i 1).val < win0_1.index t0_0 1 * win0_1.size 1 + win0_1.xsize (grid0.coords t0_0) 1; omega⟩

/-- What is written back is the gathered array, read through that block. -/
theorem flushed_gath (c : Dev nD) (t : Fin cfg0.N) :
    (dats m 0 c).flushed (1 : Fin 2) t = ((cfg0.win (1 : Fin 2)).blk t).view.read (Elt F) (gath m c) := by
  obtain rfl := fin_N0 t
  unfold Dat.flushed
  rw [show (dats m 0 c).after (1 : Fin 2) t0_0 = gath m c from rfl]
  funext y
  rw [View.read_apply]
  refine Eq.symm ((cast_eq _ _).trans (congrArg (gath m c) (funext fun a => Fin.ext ?_)))
  have z0 : win0_1.index t0_0 0 * win0_1.size 0 = 0 := by decide +kernel
  have z1 : win0_1.index t0_0 1 * win0_1.size 1 = 0 := by decide +kernel
  match a with
  | ⟨0, _⟩ => show win0_1.index t0_0 0 * win0_1.size 0 + 1 * (y 0).val = (y 0).val; omega
  | ⟨1, _⟩ => show win0_1.index t0_0 1 * win0_1.size 1 + 1 * (y 1).val = (y 1).val; omega

/-- The result is the gathered array. -/
theorem ends_result (c : Dev nD) : ends m c (1 : Fin 2) = gath m c :=
  (dats m 0 c).arrAt_eq_of_cover (1 : Fin 2) (gath m c)
    (fun t _ => flushed_gath m c t)
    (fun i => ⟨t0_0, flush0_1 _, block_whole i⟩)

/-- The staged block is the argument array itself. -/
theorem xstg_apply (c : Dev nD) (x : S2048x512.Idx) : xstg m c x = m ((c : Thread nD τ).loc main_arg0) x := by
  unfold xstg
  rw [View.read_apply]
  refine (cast_eq _ _).trans (congrArg (m ((c : Thread nD τ).loc main_arg0)) (funext fun a => Fin.ext ?_))
  have z0 : win0_0.index (0 : Fin 1) 0 * win0_0.size 0 = 0 := by decide +kernel
  have z1 : win0_0.index (0 : Fin 1) 1 * win0_0.size 1 = 0 := by decide +kernel
  match a with
  | ⟨0, _⟩ => show win0_0.index (0 : Fin 1) 0 * win0_0.size 0 + 1 * (x 0).val = (x 0).val; omega
  | ⟨1, _⟩ => show win0_0.index (0 : Fin 1) 1 * win0_0.size 1 + 1 * (x 1).val = (x 1).val; omega

/-- Every run ends with the gathered array in each result, the arguments unchanged and every counter at zero. -/
theorem run_values (ρ : Dev nD → PrngReg) : θ_run defs (onTc (τ := τ) (main (F := F))) ⟨m, fun _ => 0, ρ⟩
    (fun r => (∀ c : Dev nD, r.2.mem ((c : Thread nD τ).loc main_v1) = gath m c
        ∧ r.2.mem ((c : Thread nD τ).loc main_arg0) = m ((c : Thread nD τ).loc main_arg0)) ∧ r.2.sem = fun _ => 0) :=
  (θ_run _ _ _).mono (fun r h => ⟨fun c => ⟨(h.1 c (1 : Fin 2)).trans (ends_result m c), (h.1 c (0 : Fin 2)).trans (ends_arg m c)⟩, h.2⟩) (run_main m ρ)

/-- The third coordinate of a device is its place in its ring. -/
theorem mesh_place (c : Dev nD) : Layout.meshLin [2, 4, 4] c.val [2] = c.val % 4 := by revert c; decide

/-- If every device's argument is its block of `X` along the last mesh axis, every device gathers `X`. -/
theorem gath_blocks (X : (⟨2, ![8192, 512]⟩ : Shape).Idx → Elt F .f32)
    (h : ∀ c : Dev nD, m ((c : Thread nD τ).loc main_arg0)
      = Layout.blockN ⟨2, ![2048, 512]⟩ ⟨2, ![8192, 512]⟩ (Layout.meshBlock [2, 4, 4] ![[2], []] c) X) (c : Dev nD) :
    gath m c = X := by
  funext i
  have hr : (i 0).val < 8192 := (i 0).isLt
  unfold gath
  rw [xstg_apply, h, Layout.blockN_apply]
  refine congrArg X (funext fun a => Fin.ext ?_)
  rw [Layout.TilesN.idx_val]
  match a with
  | ⟨0, _⟩ =>
    show Layout.meshLin [2, 4, 4] (holder c (i 0)).val [2] * 2048 + (i 0).val % 2048 = (i 0).val
    rw [mesh_place]
    show (4 * (c.val / 4) + (i 0).val / 2048) % 4 * 2048 + (i 0).val % 2048 = (i 0).val
    omega
  | ⟨1, _⟩ =>
    show 0 * 512 + (i 1).val = (i 1).val
    omega

end Cert.KernelIdeal.Gather

end
-- ==== Proof.Refs.lean ====
/-
# The references' runs

Neither reference has an operation: the gathered array is the argument. So both end at once, with the memory as it was;
and having no semaphore, with every counter at zero.
-/
module

public import proofs.«01_k».proof.Proof.Gen.Reference
public import proofs.«01_k».proof.Proof.Gen.ReferenceIdeal
public import Idealize.ShloMosaic.Lib.StableHlo.Run
public import Idealize.ShloMosaic.Lib.Quiescent

@[expose] public section

noncomputable section

namespace Cert.Refs

open Idealize.ShloMosaic Idealize.ShloMosaic.TcCoe Idealize.ShloMosaic.StableHlo Idealize.SL.Sem

variable {F : FTy → Type} [FloatOps F]

section Printed
open Cert.Reference

/-- The reference leaves its array alone and every counter at zero. -/
theorem reference_run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) (defs (F := F)) main (fun _ => []) (fun _ => rfl) (fun _ => trivial) m ρ)

end Printed

section AtIdeal
open Cert.ReferenceIdeal

/-- The same of the reference's other printing. -/
theorem referenceIdeal_run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) (defs (F := F)) main (fun _ => []) (fun _ => rfl) (fun _ => trivial) m ρ)

end AtIdeal

end Cert.Refs

end
-- ==== Proof.lean ====
/-
# The proof of `Cert.Claim`

The kernel gathers the blocks of each ring of four devices on every one of them (Proof/Ring.lean, Sched, Steps, Data, Body,
Launch, Value); the modules whose names end in `I` say the same of the idealized program. The reference is the identity on
the whole array (Proof/Refs.lean). Every claim is read off one run of each program.
-/
module

public import proofs.«01_k».proof.Defs
public import proofs.«01_k».proof.Proof.Value
public import proofs.«01_k».proof.Proof.ValueI
public import proofs.«01_k».proof.Proof.Refs

@[expose] public section

noncomputable section

namespace Cert.Proof

open Idealize.ShloMosaic Idealize.SL.Sem

/-- Everything claimed: the four programs run and leave their arguments and counters as they were, and every device ends with
    the reference's array, at the idealized programs and at the printed ones. -/
theorem claim : Cert.Claim := ⟨Cert.Kernel.Gen.facts, Cert.KernelIdeal.Gen.facts, Cert.ReferenceIdeal.Gen.facts, Cert.Reference.Gen.facts,
  fun m g _ => (θ_run _ _ _).mono (fun _ h => ⟨fun c => (h.1 c).2, h.2⟩) (Cert.Kernel.Gather.run_values (F := Bits) m g),
  fun m g _ => (θ_run _ _ _).mono (fun _ h => ⟨fun c => (h.1 c).2, h.2⟩) (Cert.KernelIdeal.Gather.run_values (F := Ideal) m g),
  fun m g _ => Cert.Refs.referenceIdeal_run (F := Ideal) m g,
  fun m g _ => Cert.Refs.reference_run (F := Bits) m g,
  trivial,
  fun m g m' g' _ h => ⟨_,
    (θ_run _ _ _).mono (fun _ r c => ⟨(r.1 c).1.trans (Cert.KernelIdeal.Gather.gath_blocks m _ h c), (r.1 c).2⟩)
      (Cert.KernelIdeal.Gather.run_values (F := Ideal) m g),
    (θ_run _ _ _).mono (fun _ r => ⟨r.1 0, r.1 0⟩) (Cert.Refs.referenceIdeal_run (F := Ideal) m' g')⟩,
  fun m g m' g' _ h => ⟨_,
    (θ_run _ _ _).mono (fun _ r c => ⟨(r.1 c).1.trans (Cert.Kernel.Gather.gath_blocks m _ h c), (r.1 c).2⟩)
      (Cert.Kernel.Gather.run_values (F := Bits) m g),
    (θ_run _ _ _).mono (fun _ r => ⟨r.1 0, r.1 0⟩) (Cert.Refs.reference_run (F := Bits) m' g')⟩⟩

end Cert.Proof

end
